-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 8, 64]⟩ ⟨4, ![2, 1024, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 1024, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S8x2x8x128x64 : Shape := ⟨5, ![8, 2, 8, 128, 64]⟩
abbrev S7 : Shape := ⟨1, ![7]⟩
abbrev S_ : Shape := ⟨0, ![]⟩
abbrev S256x512 : Shape := ⟨2, ![256, 512]⟩
abbrev S128x64 : Shape := ⟨2, ![128, 64]⟩
abbrev S1x1x1x128x64 : Shape := ⟨5, ![1, 1, 1, 128, 64]⟩
abbrev S1 : Shape := ⟨1, ![1]⟩
abbrev S1x2x8x128x64 : Shape := ⟨5, ![1, 2, 8, 128, 64]⟩
abbrev S2x8x128x64 : Shape := ⟨4, ![2, 8, 128, 64]⟩
abbrev S1x1x128x64 : Shape := ⟨4, ![1, 1, 128, 64]⟩
abbrev S128x128 : Shape := ⟨2, ![128, 128]⟩
abbrev S128 : Shape := ⟨1, ![128]⟩
abbrev S128x1 : Shape := ⟨2, ![128, 1]⟩
abbrev S128x512 : Shape := ⟨2, ![128, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x8x64, .f32⟩
  | .hbm, ⟨3, _⟩ => ⟨S2x128x8x64, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x8x64, .f32⟩
  | .local _ .vmem, ⟨4, _⟩ => ⟨S2x128x8x64, .f32⟩
  | .local _ .vmem, ⟨5, _⟩ => ⟨S2x128x512, .f32⟩
  | .local _ .vmem, ⟨6, _⟩ => ⟨S8x2x8x128x64, .bf16⟩
  | .local _ .vmem, ⟨7, _⟩ => ⟨S8x2x8x128x64, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_94 : BitVec 32 := 1#32
  let v99 : BitVec 32 := Scalar.muli v3 c1_i32_94
  let v100 : BitVec 32 := Scalar.addi c0_i32_95 v99
  v100.toNat
def k0_dev5 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_107 : BitVec 32 := 1#32
  let v109 : BitVec 32 := Scalar.muli v4 c1_i32_107
  let v110 : BitVec 32 := Scalar.addi c0_i32_108 v109
  v110.toNat
def k0_dev6 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_121 : BitVec 32 := 1#32
  let v119 : BitVec 32 := Scalar.muli v5 c1_i32_121
  let v120 : BitVec 32 := Scalar.addi c0_i32_122 v119
  v120.toNat
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_215 : BitVec 32 := 1#32
  let v209 : BitVec 32 := Scalar.muli v3 c1_i32_215
  let v210 : BitVec 32 := Scalar.addi c0_i32_216 v209
  v210.toNat
def k0_dev8 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_229 : BitVec 32 := 1#32
  let v219 : BitVec 32 := Scalar.muli v4 c1_i32_229
  let v220 : BitVec 32 := Scalar.addi c0_i32_230 v219
  v220.toNat
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_243 : BitVec 32 := 1#32
  let v229 : BitVec 32 := Scalar.muli v5 c1_i32_243
  let v230 : BitVec 32 := Scalar.addi c0_i32_244 v229
  v230.toNat
def k0_dev10 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_368 : BitVec 32 := 1#32
  let v550 : BitVec 32 := Scalar.muli v3 c1_i32_368
  let v551 : BitVec 32 := Scalar.addi c0_i32_369 v550
  v551.toNat
def k0_dev11 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_395 : BitVec 32 := 1#32
  let v568 : BitVec 32 := Scalar.muli v4 c1_i32_395
  let v569 : BitVec 32 := Scalar.addi c0_i32_396 v568
  v569.toNat
def k0_dev12 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_422 : BitVec 32 := 1#32
  let v586 : BitVec 32 := Scalar.muli v5 c1_i32_422
  let v587 : BitVec 32 := Scalar.addi c0_i32_423 v586
  v587.toNat
def k0_dev13 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_450 : BitVec 32 := 1#32
  let v604 : BitVec 32 := Scalar.muli v3 c1_i32_450
  let v605 : BitVec 32 := Scalar.addi c0_i32_451 v604
  v605.toNat
def k0_dev14 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_478 : BitVec 32 := 1#32
  let v622 : BitVec 32 := Scalar.muli v4 c1_i32_478
  let v623 : BitVec 32 := Scalar.addi c0_i32_479 v622
  v623.toNat
def k0_dev15 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_506 : BitVec 32 := 1#32
  let v640 : BitVec 32 := Scalar.muli v5 c1_i32_506
  let v641 : BitVec 32 := Scalar.addi c0_i32_507 v640
  v641.toNat
def k0_dev16 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_803 : BitVec 32 := 1#32
  let v1822 : BitVec 32 := Scalar.muli v3 c1_i32_803
  let v1823 : BitVec 32 := Scalar.addi c0_i32_804 v1822
  v1823.toNat
def k0_dev17 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_831 : BitVec 32 := 1#32
  let v1840 : BitVec 32 := Scalar.muli v3 c1_i32_831
  let v1841 : BitVec 32 := Scalar.addi c0_i32_832 v1840
  v1841.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x512 : Shape := ⟨2, ![512, 512]⟩
abbrev S2x1024x8x64 : Shape := ⟨4, ![2, 1024, 8, 64]⟩
abbrev S_ : Shape := ⟨0, ![]⟩
abbrev S2x8x1024x1 : Shape := ⟨4, ![2, 8, 1024, 1]⟩
abbrev S2x8x1024x1024 : Shape := ⟨4, ![2, 8, 1024, 1024]⟩
abbrev S2x8x1024 : Shape := ⟨3, ![2, 8, 1024]⟩
abbrev S2x1024x8x1 : Shape := ⟨4, ![2, 1024, 8, 1]⟩
abbrev S2x8x64x1024 : Shape := ⟨4, ![2, 8, 64, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x512, .f32⟩
  | .hbm, ⟨2, _⟩ => ⟨S2x1024x8x64, .f32⟩
  | .hbm, ⟨3, _⟩ => ⟨S2x1024x8x64, .f32⟩
  | .hbm, ⟨4, _⟩ => ⟨S512x512, .f32⟩
  | .hbm, ⟨5, _⟩ => ⟨S2x1024x512, .f32⟩
  | .hbm, ⟨6, _⟩ => ⟨S2x1024x8x64, .f32⟩
  | .hbm, ⟨7, _⟩ => ⟨S_, .f32⟩
  | .hbm, ⟨8, _⟩ => ⟨S2x1024x8x64, .f32⟩
  | .hbm, ⟨9, _⟩ => ⟨S_, .f32⟩
  | .hbm, ⟨10, _⟩ => ⟨S2x8x1024x1, .f32⟩
  | .hbm, ⟨11, _⟩ => ⟨S_, .f32⟩
  | .hbm, ⟨12, _⟩ => ⟨S2x8x1024x1, .f32⟩
  | .hbm, ⟨13, _⟩ => ⟨S2x8x1024x1024, .f32⟩
  | .hbm, ⟨14, _⟩ => ⟨S_, .f32⟩
  | .hbm, ⟨15, _⟩ => ⟨S2x8x1024x1024, .f32⟩
  | .hbm, ⟨16, _⟩ => ⟨S2x8x1024x1024, .f32⟩
  | .hbm, ⟨17, _⟩ => ⟨S_, .f32⟩
  | .hbm, ⟨18, _⟩ => ⟨S2x8x1024, .f32⟩
  | .hbm, ⟨19, _⟩ => ⟨S2x8x1024x1, .f32⟩
  | .hbm, ⟨20, _⟩ => ⟨S2x8x1024x1, .f32⟩
  | .hbm, ⟨21, _⟩ => ⟨S2x8x1024x1, .f32⟩
  | .hbm, ⟨22, _⟩ => ⟨S2x8x1024x1, .f32⟩
  | .hbm, ⟨23, _⟩ => ⟨S2x8x1024x1024, .f32⟩
  | .hbm, ⟨24, _⟩ => ⟨S2x8x1024x1024, .f32⟩
  | .hbm, ⟨25, _⟩ => ⟨S2x8x1024x1024, .f32⟩
  | .hbm, ⟨26, _⟩ => ⟨S2x8x1024x1, .f32⟩
  | .hbm, ⟨27, _⟩ => ⟨S_, .f32⟩
  | .hbm, ⟨28, _⟩ => ⟨S2x8x1024, .f32⟩
  | .hbm, ⟨29, _⟩ => ⟨S2x8x1024x1, .f32⟩
  | .hbm, ⟨30, _⟩ => ⟨S2x8x1024x1, .f32⟩
  | .hbm, ⟨31, _⟩ => ⟨S2x1024x8x1, .f32⟩
  | .hbm, ⟨32, _⟩ => ⟨S2x1024x8x64, .f32⟩
  | .hbm, ⟨33, _⟩ => ⟨S2x1024x8x64, .f32⟩
  | .hbm, ⟨34, _⟩ => ⟨S2x8x64x1024, .f32⟩
  | .hbm, ⟨35, _⟩ => ⟨S2x1024x8x64, .f32⟩
  | .hbm, ⟨36, _⟩ => ⟨S2x1024x8x64, .f32⟩
  | .hbm, ⟨37, _⟩ => ⟨S2x1024x8x1, .f32⟩
  | .hbm, ⟨38, _⟩ => ⟨S2x1024x8x64, .f32⟩
  | .hbm, ⟨39, _⟩ => ⟨S2x1024x8x64, .f32⟩
  | .hbm, ⟨40, _⟩ => ⟨S2x1024x512, .f32⟩
  | .hbm, ⟨41, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.KernelIdeal.Spec.lean ====
/-
# What one device computes, as a function of its inputs and of the eight chunks of keys and values

The kernel works head by head (two batch rows of eight heads: sixteen heads `i`, `i / 8` the batch row and `i % 8` the
head). A head keeps a running maximum, a running sum and a running accumulator over the chunks it has met; `headOut`
is that fold over the eight slots of the two gather buffers in the order the kernel meets them.
-/
module

public import proofs.«01_k».proof.Proof.Gen.KernelIdeal
public import proofs.«01_k».proof.Proof.Gen.KernelIdeal.Skeleton

@[expose] public section

noncomputable section

namespace Cert.AttKernelIdeal

open Cert.KernelIdeal Cert.KernelIdeal.Gen
open Idealize.ShloMosaic

variable {F : FTy → Type} [FloatOps F]

/-! ## Where a head lies -/

/-- Where head `i` lies in a matrix of 256 rows (two batch rows of 128) and 512 columns (eight heads of 64). -/
abbrev headAt (i : Fin 16) : Fin 2 → Nat := ![128 * (i.val / 8), 64 * (i.val % 8)]
/-- Where head `i` lies in a chunk. -/
abbrev chunkAt (i : Fin 16) : Fin 4 → Nat := ![i.val / 8, i.val % 8, 0, 0]

theorem slices_head (i : Fin 16) : S256x512.Slices (headAt i) S128x64 := by revert i; decide
theorem slices_chunk (i : Fin 16) : S2x8x128x64.Slices (chunkAt i) S1x1x128x64 := by revert i; decide

/-! ## The arithmetic -/

/-- A device's own keys (or values) as a matrix. -/
abbrev kvMat (v : FVec F S2x128x8x64 .f32) : FVec F S256x512 .f32 :=
  shapeCast S256x512 (shapeCast S2x128x8x64 v shapeCasts_S2x128x8x64_S2x128x8x64) shapeCasts_S2x128x8x64_S256x512

/-- The block of a chunk a head's columns become. -/
abbrev storePay (X : FVec F S256x512 .f32) (i : Fin 16) : FVec F S1x1x1x128x64 .bf16 :=
  shapeCast S1x1x1x128x64 (truncf .bf16 (extractStridedSlice S128x64 (headAt i) X (slices_head i)) bitsLt_bf16_f32)
    shapeCasts_S128x64_S1x1x1x128x64

/-- The queries of a device's rows. -/
abbrev qMat (x : FVec F S2x128x512 .f32) (wq : FVec F S512x512 .f32) : FVec F S256x512 .f32 := k0_pay40 x wq

/-- The queries of head `i`. -/
abbrev qHead (x : FVec F S2x128x512 .f32) (wq : FVec F S512x512 .f32) (i : Fin 16) : FVec F S128x64 .bf16 :=
  truncf .bf16 (extractStridedSlice S128x64 (headAt i) (qMat x wq) (slices_head i)) bitsLt_bf16_f32

/-- The output projection. -/
abbrev woMat (wo : FVec F S512x512 .f32) : FVec F S512x512 .bf16 :=
  truncf .bf16 (shapeCast S512x512 wo shapeCasts_S512x512_S512x512) bitsLt_bf16_f32

/-- Head `i` of a slot as it is loaded. -/
abbrev chunkHead (kc : FVec F S1x2x8x128x64 .bf16) (i : Fin 16) : FVec F S128x64 .bf16 :=
  shapeCast S128x64 (extractStridedSlice S1x1x128x64 (chunkAt i)
    (shapeCast S2x8x128x64 kc shapeCasts_S1x2x8x128x64_S2x8x128x64) (slices_chunk i)) shapeCasts_S1x1x128x64_S128x64

/-- A head's scores against a chunk of keys. -/
abbrev scores (q k : FVec F S128x64 .bf16) : FVec F S128x128 .f32 :=
  mulf (matmul dot_S128x64_S128x64_S128x128_1_1_0_0_n_n none q k (constant S128x128 .f32 0x00000000#32))
    (broadcast S128x128 (Scalar.ofBits .f32 0x3E000000#32))

/-- The largest score of each row. -/
abbrev rowMax (s : FVec F S128x128 .f32) : FVec F S128x1 .f32 :=
  shapeCast S128x1 (multiReduction .maximumf [1] S128 s 0xFF800000#32 reduces_S128x128_S128 (.inl rfl) rfl) shapeCasts_S128_S128x1

/-- The weights of a chunk against the maximum `m`. -/
abbrev weights (s : FVec F S128x128 .f32) (m : FVec F S128x1 .f32) : FVec F S128x128 .f32 :=
  exp (subf s (broadcastTo S128x128 m broadcasts_S128x1_S128x128))

/-- The sum of each row's weights. -/
abbrev rowSum (p : FVec F S128x128 .f32) : FVec F S128x1 .f32 :=
  shapeCast S128x1 (multiReduction .add [1] S128 p 0x00000000#32 reduces_S128x128_S128 (.inl rfl) rfl) shapeCasts_S128_S128x1

/-- The weights against a chunk of values. -/
abbrev weighted (p : FVec F S128x128 .f32) (v : FVec F S128x64 .bf16) : FVec F S128x64 .f32 :=
  matmul dot_S128x128_S128x64_S128x64_1_0_0_1_n_n none (truncf .bf16 p bitsLt_bf16_f32) v (constant S128x64 .f32 0x00000000#32)

/-- The factor that takes what was weighted against `m` to `m'`. -/
abbrev rescale (m m' : FVec F S128x1 .f32) : FVec F S128x1 .f32 := exp (subf m m')

/-- The running sum after one more chunk. -/
abbrev nextSum (l a : FVec F S128x1 .f32) (p : FVec F S128x128 .f32) : FVec F S128x1 .f32 := addf (mulf l a) (rowSum p)

/-- The running accumulator after one more chunk. -/
abbrev nextAcc (acc : FVec F S128x64 .f32) (a : FVec F S128x1 .f32) (p : FVec F S128x128 .f32) (v : FVec F S128x64 .bf16) :
    FVec F S128x64 .f32 :=
  addf (mulf acc (broadcastTo S128x64 a broadcasts_S128x1_S128x64)) (weighted p v)

/-- One head's output over the eight slots, in the order the kernel meets them: 0, 1, 2, 3, 5, 4, 6, 7. -/
abbrev headOut (q : FVec F S128x64 .bf16) (k v : Fin 8 → FVec F S128x64 .bf16) : FVec F S128x64 .bf16 :=
  let s0 := scores q (k 0)
  let m0 := rowMax s0
  let p0 := weights s0 m0
  let l0 := rowSum p0
  let o0 := weighted p0 (v 0)
  let s1 := scores q (k 1)
  let m1 := maximumf m0 (rowMax s1)
  let a1 := rescale m0 m1
  let p1 := weights s1 m1
  let l1 := nextSum l0 a1 p1
  let o1 := nextAcc o0 a1 p1 (v 1)
  let s2 := scores q (k 2)
  let m2 := maximumf m1 (rowMax s2)
  let a2 := rescale m1 m2
  let p2 := weights s2 m2
  let l2 := nextSum l1 a2 p2
  let o2 := nextAcc o1 a2 p2 (v 2)
  let s3 := scores q (k 3)
  let m3 := maximumf m2 (rowMax s3)
  let a3 := rescale m2 m3
  let p3 := weights s3 m3
  let l3 := nextSum l2 a3 p3
  let o3 := nextAcc o2 a3 p3 (v 3)
  let s4 := scores q (k 5)
  let m4 := maximumf m3 (rowMax s4)
  let a4 := rescale m3 m4
  let p4 := weights s4 m4
  let l4 := nextSum l3 a4 p4
  let o4 := nextAcc o3 a4 p4 (v 5)
  let s5 := scores q (k 4)
  let m5 := maximumf m4 (rowMax s5)
  let a5 := rescale m4 m5
  let p5 := weights s5 m5
  let l5 := nextSum l4 a5 p5
  let o5 := nextAcc o4 a5 p5 (v 4)
  let s6 := scores q (k 6)
  let m6 := maximumf m5 (rowMax s6)
  let a6 := rescale m5 m6
  let p6 := weights s6 m6
  let l6 := nextSum l5 a6 p6
  let o6 := nextAcc o5 a6 p6 (v 6)
  let s7 := scores q (k 7)
  let m7 := maximumf m6 (rowMax s7)
  let a7 := rescale m6 m7
  let p7 := weights s7 m7
  let l7 := nextSum l6 a7 p7
  let o7 := nextAcc o6 a7 p7 (v 7)
  truncf .bf16 (divf o7 (broadcastTo S128x64 l7 broadcasts_S128x1_S128x64)) bitsLt_bf16_f32

/-- The eight heads of a batch row, side by side. -/
abbrev rowOut (H : Fin 16 → FVec F S128x64 .bf16) (a b c d e f g h : Fin 16) : FVec F S128x512 .bf16 :=
  concatenate S128x512 1 [⟨S128x64, H a⟩, ⟨S128x64, H b⟩, ⟨S128x64, H c⟩, ⟨S128x64, H d⟩, ⟨S128x64, H e⟩, ⟨S128x64, H f⟩,
    ⟨S128x64, H g⟩, ⟨S128x64, H h⟩] concatenates_S128x64_S128x64_S128x64_S128x64_S128x64_S128x64_S128x64_S128x64_S128x512_d1

/-- The block a device writes, from the output of each head. -/
abbrev blockOf (wo : FVec F S512x512 .f32) (H : Fin 16 → FVec F S128x64 .bf16) : FVec F S2x128x512 .f32 :=
  shapeCast S2x128x512 (matmul dot_S256x512_S512x512_S256x512_1_0_0_1_n_n none
    (concatenate S256x512 0 [⟨S128x512, rowOut H 0 1 2 3 4 5 6 7⟩, ⟨S128x512, rowOut H 8 9 10 11 12 13 14 15⟩]
      concatenates_S128x512_S128x512_S256x512_d0)
    (woMat wo) (constant S256x512 .f32 0x00000000#32)) shapeCasts_S256x512_S2x128x512

/-- The block a device writes, from its rows of `x`, the weights and the eight slots of its gather buffers. -/
abbrev blockOut (x : FVec F S2x128x512 .f32) (wq wo : FVec F S512x512 .f32) (k v : Fin 8 → FVec F S1x2x8x128x64 .bf16) :
    FVec F S2x128x512 .f32 :=
  blockOf wo fun i => headOut (qHead x wq i) (fun s => chunkHead (k s) i) (fun s => chunkHead (v s) i)

end Cert.AttKernelIdeal

end
-- ==== Proof.KernelIdeal.Body.lean ====
/-
# The kernel's body, stated by slots, transfers and heads

The two gather buffers (keys, values) have eight slots each; transfer `t` copies slot `srcOf t` of this device into
slot `dstOf t` of its partner along axis `axOf t`, crediting semaphore `t` of the send array here and semaphore `t` of
the receive array there. `body` is the printed kernel function said in these words; `cc0_body_eq` is the equation.
-/
module

public import proofs.«01_k».proof.Proof.KernelIdeal.Spec
public import Idealize.ShloMosaic.Lib.Pipeline.Regions

@[expose] public section

noncomputable section

namespace Cert.AttKernelIdeal

open Cert.KernelIdeal Cert.KernelIdeal.Gen
open Idealize.ShloMosaic Idealize.SL.Sem

variable {F : FTy → Type} [FloatOps F]

/-! ## Slots, transfers, partners -/

/-- The slot transfer `t` reads here, -/
abbrev srcOf : Fin 7 → Fin 8 := ![0, 0, 0, 2, 3, 1, 5]
/-- the slot it writes at the partner, -/
abbrev dstOf : Fin 7 → Fin 8 := ![1, 2, 3, 4, 5, 6, 7]
/-- and the axis along which the partner lies. -/
abbrev axOf : Fin 7 → Fin 3 := ![0, 1, 2, 0, 1, 2, 0]

/-- The three partners of device `d`. -/
abbrev peer (d : Dev nD) : Fin 3 → Dev nD := ![⟨k0_dev1 d, k0_dev1_lt d⟩, ⟨k0_dev2 d, k0_dev2_lt d⟩, ⟨k0_dev3 d, k0_dev3_lt d⟩]

theorem inb_slot (s : Fin 8) : ∀ a, (![s.val, 0, 0, 0, 0] : Fin 5 → Nat) a + S1x2x8x128x64.size a ≤ S8x2x8x128x64.size a := by
  revert s; decide
theorem inb_head (i : Fin 16) : ∀ a, (![0, i.val / 8, i.val % 8, 0, 0] : Fin 5 → Nat) a + S1x1x1x128x64.size a ≤ S8x2x8x128x64.size a := by
  revert i; decide
theorem inb_sem (t : Fin 7) : ∀ a, (![t.val] : Fin 1 → Nat) a + S1.size a ≤ S7.size a := by
  revert t; decide

/-- Slot `s` of a gather buffer, -/
abbrev slotRect (s : Fin 8) : Rect S8x2x8x128x64 :=
  Rect.unit (s := S8x2x8x128x64) ![s.val, 0, 0, 0, 0] S1x2x8x128x64.size (inb_slot s)
/-- and head `i` of slot 0. -/
abbrev headRect (i : Fin 16) : Rect S8x2x8x128x64 :=
  Rect.unit (s := S8x2x8x128x64) ![0, i.val / 8, i.val % 8, 0, 0] S1x1x1x128x64.size (inb_head i)

theorem words_slot (s : Fin 8) : (slotRect s).WholeWords (EltTy.packing .bf16) := by
  fin_cases s
  exacts [wordsbf16_S8x2x8x128x64_S1x2x8x128x64_0_0_0_0_0, wordsbf16_S8x2x8x128x64_S1x2x8x128x64_1_0_0_0_0,
    wordsbf16_S8x2x8x128x64_S1x2x8x128x64_2_0_0_0_0, wordsbf16_S8x2x8x128x64_S1x2x8x128x64_3_0_0_0_0,
    wordsbf16_S8x2x8x128x64_S1x2x8x128x64_4_0_0_0_0, wordsbf16_S8x2x8x128x64_S1x2x8x128x64_5_0_0_0_0,
    wordsbf16_S8x2x8x128x64_S1x2x8x128x64_6_0_0_0_0, wordsbf16_S8x2x8x128x64_S1x2x8x128x64_7_0_0_0_0]

theorem packed_head (i : Fin 16) : (headRect i).PackedRows (EltTy.packing .bf16) := by
  fin_cases i
  exacts [packedbf16_S8x2x8x128x64_S1x1x1x128x64_0_0_0_0_0, packedbf16_S8x2x8x128x64_S1x1x1x128x64_0_0_1_0_0,
    packedbf16_S8x2x8x128x64_S1x1x1x128x64_0_0_2_0_0, packedbf16_S8x2x8x128x64_S1x1x1x128x64_0_0_3_0_0,
    packedbf16_S8x2x8x128x64_S1x1x1x128x64_0_0_4_0_0, packedbf16_S8x2x8x128x64_S1x1x1x128x64_0_0_5_0_0,
    packedbf16_S8x2x8x128x64_S1x1x1x128x64_0_0_6_0_0, packedbf16_S8x2x8x128x64_S1x1x1x128x64_0_0_7_0_0,
    packedbf16_S8x2x8x128x64_S1x1x1x128x64_0_1_0_0_0, packedbf16_S8x2x8x128x64_S1x1x1x128x64_0_1_1_0_0,
    packedbf16_S8x2x8x128x64_S1x1x1x128x64_0_1_2_0_0, packedbf16_S8x2x8x128x64_S1x1x1x128x64_0_1_3_0_0,
    packedbf16_S8x2x8x128x64_S1x1x1x128x64_0_1_4_0_0, packedbf16_S8x2x8x128x64_S1x1x1x128x64_0_1_5_0_0,
    packedbf16_S8x2x8x128x64_S1x1x1x128x64_0_1_6_0_0, packedbf16_S8x2x8x128x64_S1x1x1x128x64_0_1_7_0_0]

/-! ## The memory operations -/

abbrev Buf5 := Memref sig .tc .vmem S8x2x8x128x64 .bf16
abbrev P (F : FTy → Type) (α : Type) := Prog (TpuEff nD τ sig (Elt F) Λ₀ .tc) α

/-- Slot `s` as a view of its own. -/
abbrev slotV (A : Buf5) (s : Fin 8) : Memref sig .tc .vmem S2x8x128x64 .bf16 :=
  (A.slice (slotRect s) (fun _ => rfl)).squeeze S2x8x128x64 squeezes_S1x2x8x128x64_S2x8x128x64
/-- Semaphore `t` of an array of seven. -/
abbrev semAt (S : DmaSems sig S7) (t : Fin 7) : DmaSem sig :=
  ((S.slice (Rect.unit (s := S7) ![t.val] S1.size (inb_sem t))).squeeze S_ squeezes_S1_S_).sem
/-- The barrier's semaphore. -/
abbrev barS : Sem sig := (SemArray.scalar (sig.barrier 0 rfl) : Sems sig S_).sem

theorem words_slotV (A : Buf5) (hA : A.IsWhole) (s : Fin 8) : (slotV A s).view.WordExact :=
  (hA.wordExact_slice rfl _ (words_slot s)).reshape _ _

abbrev loadSlot (A : Buf5) (s : Fin 8) : P F (Vec F S1x2x8x128x64 .bf16) :=
  Prog.lift (.load A (slotRect s).toLoadRect (View.loadsAt_vmem h_S1x2x8x128x64))

/-- Transfer `t` of the buffer `A`. -/
abbrev send (A : Buf5) (hA : A.IsWhole) (S R : DmaSems sig S7) (d : Dev nD) (t : Fin 7) : P F PUnit :=
  Prog.lift (.enqueueDma (slotV A (srcOf t)) (.remote (Dev.tc (peer d (axOf t))) (slotV A (dstOf t)) (.dma (semAt S t)))
    (.dma (semAt R t)) (words_slotV A hA (srcOf t)) (words_slotV A hA (dstOf t)) ⟨⟨rfl, Or.inl rfl⟩, trivial⟩)
/-- The wait for the landing of transfer `t`, -/
abbrev waitRecv (A : Buf5) (hA : A.IsWhole) (R : DmaSems sig S7) (t : Fin 7) : P F PUnit :=
  Prog.lift (.waitDma2 (semAt R t) (slotV A (srcOf t)) (slotV A (dstOf t)) (words_slotV A hA _) (words_slotV A hA _))
/-- and for its having been read. -/
abbrev waitSend (A : Buf5) (hA : A.IsWhole) (S : DmaSems sig S7) (t : Fin 7) : P F PUnit :=
  Prog.lift (.waitDma2 (semAt S t) (slotV A (dstOf t)) (slotV A (srcOf t)) (words_slotV A hA _) (words_slotV A hA _))

/-- The heads of `X` stored into slot 0, one after the other, then `k`. -/
def storeHeads (A : Buf5) (hA : A.IsWhole) (X : FVec F S256x512 .f32) : List (Fin 16) → P F PUnit → P F PUnit
  | [], k => k
  | i :: is, k => do
      let _ ← Prog.lift (.load A (headRect i).toLoadRect (View.loadsAt_vmem h_S1x1x1x128x64))
      Prog.lift (.store A (headRect i) (storePay X i) Finset.univ
        (View.stores_vmem h_S1x1x1x128x64 (hA.storeExact_slice rfl _ (packed_head i)) (fun _ => rfl)) (.inl rfl))
      storeHeads A hA X is k

/-- The sixteen heads. -/
abbrev heads : List (Fin 16) := [0, 1, 2, 3, 4, 5, 6, 7, 8, 9, 10, 11, 12, 13, 14, 15]

/-- The waits for the transfers' having been read, of both buffers, then `k`. -/
def waitSends (A B : Buf5) (hA : A.IsWhole) (hB : B.IsWhole) (S T : DmaSems sig S7) : List (Fin 7) → P F PUnit
  | [] => pure ⟨⟩
  | t :: ts => do
      waitSend A hA S t
      waitSend B hB T t
      waitSends A B hA hB S T ts

section
variable (arg0 : Memref sig .tc .vmem S2x128x512 .f32) (harg0 : arg0.IsWhole)
  (arg1 : Memref sig .tc .vmem S512x512 .f32) (harg1 : arg1.IsWhole)
  (arg2 : Memref sig .tc .vmem S512x512 .f32) (harg2 : arg2.IsWhole)
  (arg3 : Memref sig .tc .vmem S2x128x8x64 .f32) (harg3 : arg3.IsWhole)
  (arg4 : Memref sig .tc .vmem S2x128x8x64 .f32) (harg4 : arg4.IsWhole)
  (arg5 : Memref sig .tc .vmem S2x128x512 .f32) (harg5 : arg5.IsWhole)
  (arg6 : Buf5) (harg6 : arg6.IsWhole) (arg7 : Buf5) (harg7 : arg7.IsWhole)
  (arg8 arg9 arg10 arg11 : DmaSems sig S7)

abbrev load3 (A : Memref sig .tc .vmem S2x128x512 .f32) : P F (Vec F S2x128x512 .f32) :=
  Prog.lift (.load A (Rect.unit (s := S2x128x512) ![0, 0, 0] S2x128x512.size inb_S2x128x512_S2x128x512_0_0_0).toLoadRect (View.loadsAt_vmem h_S2x128x512))
abbrev load2 (A : Memref sig .tc .vmem S512x512 .f32) : P F (Vec F S512x512 .f32) :=
  Prog.lift (.load A (Rect.unit (s := S512x512) ![0, 0] S512x512.size inb_S512x512_S512x512_0_0).toLoadRect (View.loadsAt_vmem h_S512x512))
abbrev load4 (A : Memref sig .tc .vmem S2x128x8x64 .f32) : P F (Vec F S2x128x8x64 .f32) :=
  Prog.lift (.load A (Rect.unit (s := S2x128x8x64) ![0, 0, 0, 0] S2x128x8x64.size inb_S2x128x8x64_S2x128x8x64_0_0_0_0).toLoadRect (View.loadsAt_vmem h_S2x128x8x64))
abbrev storeOut (A : Memref sig .tc .vmem S2x128x512 .f32) (v : FVec F S2x128x512 .f32) : P F PUnit :=
  Prog.lift (.store A (Rect.unit (s := S2x128x512) ![0, 0, 0] S2x128x512.size inb_S2x128x512_S2x128x512_0_0_0) v Finset.univ
    (View.stores_vmem_bits_univ h_S2x128x512 rfl) (.inl rfl))

/-- The kernel function: announce to the three partners, gather own keys and values into slot 0, wait for the three
    announcements, exchange in three stages, fold the slots as they land. -/
def body : P F PUnit := do
  let d ← Prog.lift .deviceId
  semSignalWord (peer d 0) barS 1#32
  semSignalWord (peer d 1) barS 1#32
  semSignalWord (peer d 2) barS 1#32
  let kIn ← load4 arg3
  let vIn ← load4 arg4
  storeHeads arg6 harg6 (kvMat kIn) heads do
  semWaitWord barS 3#32
  send arg6 harg6 arg8 arg9 d 0
  send arg6 harg6 arg8 arg9 d 1
  send arg6 harg6 arg8 arg9 d 2
  storeHeads arg7 harg7 (kvMat vIn) heads do
  send arg7 harg7 arg10 arg11 d 0
  send arg7 harg7 arg10 arg11 d 1
  send arg7 harg7 arg10 arg11 d 2
  let x ← load3 arg0
  let wq ← load2 arg1
  let wo ← load2 arg2
  let k0 ← loadSlot arg6 0
  let v0 ← loadSlot arg7 0
  waitRecv arg6 harg6 arg9 1
  send arg6 harg6 arg8 arg9 d 3
  waitRecv arg6 harg6 arg9 2
  send arg6 harg6 arg8 arg9 d 4
  waitRecv arg6 harg6 arg9 0
  send arg6 harg6 arg8 arg9 d 5
  waitRecv arg7 harg7 arg11 1
  send arg7 harg7 arg10 arg11 d 3
  waitRecv arg7 harg7 arg11 2
  send arg7 harg7 arg10 arg11 d 4
  waitRecv arg7 harg7 arg11 0
  send arg7 harg7 arg10 arg11 d 5
  let k1 ← loadSlot arg6 1
  let v1 ← loadSlot arg7 1
  let k2 ← loadSlot arg6 2
  let v2 ← loadSlot arg7 2
  let k3 ← loadSlot arg6 3
  let v3 ← loadSlot arg7 3
  waitRecv arg6 harg6 arg9 4
  send arg6 harg6 arg8 arg9 d 6
  waitRecv arg7 harg7 arg11 4
  send arg7 harg7 arg10 arg11 d 6
  let k5 ← loadSlot arg6 5
  let v5 ← loadSlot arg7 5
  waitRecv arg6 harg6 arg9 3
  waitRecv arg7 harg7 arg11 3
  let k4 ← loadSlot arg6 4
  let v4 ← loadSlot arg7 4
  waitRecv arg6 harg6 arg9 5
  waitRecv arg7 harg7 arg11 5
  let k6 ← loadSlot arg6 6
  let v6 ← loadSlot arg7 6
  waitRecv arg6 harg6 arg9 6
  waitRecv arg7 harg7 arg11 6
  let k7 ← loadSlot arg6 7
  let v7 ← loadSlot arg7 7
  let _ ← load3 arg5
  storeOut arg5 (blockOut x wq wo ![k0, k1, k2, k3, k4, k5, k6, k7] ![v0, v1, v2, v3, v4, v5, v6, v7])
  waitSends arg6 arg7 harg6 harg7 arg8 arg10 [0, 1, 2, 3, 4, 5, 6]

theorem cc0_body_eq :
    cc0_body arg0 harg0 arg1 harg1 arg2 harg2 arg3 harg3 arg4 harg4 arg5 harg5 arg6 harg6 arg7 harg7 arg8 arg9 arg10 arg11
      = body (F := F) arg0 arg1 arg2 arg3 arg4 arg5 arg6 harg6 arg7 harg7 arg8 arg9 arg10 arg11 := by
  chain_rfl
end

end Cert.AttKernelIdeal

end
-- ==== Proof.KernelIdeal.Protocol.lean ====
/-
# The protocol between the eight devices

Per device and per gather buffer (`b = 0` keys, `b = 1` values):

* the barrier's semaphore of device `c` is signalled once by each of its three partners and waited for at 3. Partner
  `peer c d` hands over, with its signal, the slots of its own two buffers that `c` will write;
* transfer `t` reads slot `srcOf t` here and writes slot `dstOf t` at `peer c (axOf t)`. It credits its send semaphore
  here, which hands the share of the source back, and its receive semaphore there, which hands over the slot written,
  holding the chunk of the device that `holder` names;
* every semaphore has one round. A device first owes its three signals, then its transfers in the order it starts them;
  a wait on a receive semaphore of stage `n` is made while only transfers of later stages are owed.
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit
public import Idealize.ShloMosaic.Lib.Pipeline.Frame
public import Idealize.ShloMosaic.Lib.ValueIdxCore
public import Idealize.ShloMosaic.Lib.Tactic

@[expose] public section

noncomputable section

namespace Cert.AttKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline's copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners and holders -/

theorem peer_peer (c : Dev nD) (d : Fin 3) : peer (peer c d) d = c := by revert c d; decide

/-- The device whose chunk slot `s` of device `c` comes to hold. -/
abbrev holder (c : Dev nD) : Fin 8 → Dev nD :=
  ![c, peer c 0, peer c 1, peer c 2, peer (peer c 0) 1, peer (peer c 1) 2, peer (peer c 2) 0, peer (peer (peer c 0) 1) 2]

/-- What transfer `t` of device `c` writes at its partner is the chunk the partner's slot is for. -/
theorem holder_send (c : Dev nD) (t : Fin 7) : holder (peer c (axOf t)) (dstOf t) = holder c (srcOf t) := by
  revert c t; decide

/-! ## Buffers and cells -/

/-- The two gather buffers, -/
abbrev bufM : Fin 2 → Buf5 := ![Memref.whole cc0_scratch0, Memref.whole cc0_scratch1]
theorem bufM_whole : ∀ b, (bufM b).IsWhole
  | 0 => Memref.isWhole_whole _
  | 1 => Memref.isWhole_whole _
/-- their send and receive semaphores. -/
abbrev sendA : Fin 2 → DmaSems sig S7 := ![cc0_scratch2, cc0_scratch4]
abbrev recvA : Fin 2 → DmaSems sig S7 := ![cc0_scratch3, cc0_scratch5]

/-- Which transfer, and which end of it, a DMA semaphore counts: `0` the send end, `1` the receive end. -/
def decode (q : DmaSem sig) : Option (Fin 2 × Fin 2 × Fin 7) :=
  if h : 6 ≤ q.val then
    some (⟨(q.val - 6) / 14, by have : q.val < 34 := q.isLt; omega⟩, ⟨(q.val - 6) / 7 % 2, Nat.mod_lt _ (by decide)⟩,
      ⟨(q.val - 6) % 7, Nat.mod_lt _ (by decide)⟩)
  else none

theorem decode_send : ∀ (b : Fin 2) (t : Fin 7), decode (semAt (sendA b) t) = some (b, 0, t) := by decide
theorem decode_recv : ∀ (b : Fin 2) (t : Fin 7), decode (semAt (recvA b) t) = some (b, 1, t) := by decide

abbrev barCell (c : Dev nD) : GSem nD τ sig := ((c : Thread nD τ), .reg barS)
abbrev sendCell (b : Fin 2) (t : Fin 7) (c : Dev nD) : GSem nD τ sig := ((c : Thread nD τ), .dma (semAt (sendA b) t))
abbrev recvCell (b : Fin 2) (t : Fin 7) (c : Dev nD) : GSem nD τ sig := ((c : Thread nD τ), .dma (semAt (recvA b) t))

/-- What a transfer of buffer `b` credits. -/
abbrev amt (b : Fin 2) : ℕ := (slotV (bufM b) 0).view.dmaCredit
theorem amt_pos (b : Fin 2) : 0 < amt b := View.dmaCredit_pos _ (by decide)

/-! ## Contents -/

section Contents
variable (kv : Fin 2 → Dev nD → FVec F S2x128x8x64 .f32)

/-- The number of a head, from its batch row and its place there. -/
abbrev headNo (p : Fin 2) (h : Fin 8) : Fin 16 := ⟨8 * p.val + h.val, by have := p.isLt; have := h.isLt; omega⟩

/-- Buffer `b` of device `c` once everything has landed. -/
def gath (b : Fin 2) (c : Dev nD) : FVec F S8x2x8x128x64 .bf16 := fun i =>
  storePay (kvMat (kv b (holder c (i 0)))) (headNo (i 1) (i 2)) (ValueIdx.ix5 0 0 0 (i 3) (i 4))

/-- The same as the buffer's contents. -/
abbrev gathBuf (b : Fin 2) (c : Dev nD) : Buf (Elt F) ((bufM b).view.loc (c : Thread nD τ)) := (bufM_whole b).unread (gath kv b c)

/-- A share of slot `s`, holding its chunk. -/
def slotPt (b : Fin 2) (c : Dev nD) (s : Fin 8) (q : PosShare TreeShare) : sProp 𝕄 :=
  (slotV (bufM b) s).view.loc (c : Thread nD τ) ↦[(slotV (bufM b) s).view.set]{q} gathBuf kv b c

/-- Slot `dstOf t` at the partner, before it is written. -/
def landing (b : Fin 2) (c : Dev nD) (t : Fin 7) : sProp 𝕄 :=
  iprop(∃ f : Buf (Elt F) ((slotV (bufM b) (dstOf t)).view.loc (peer c (axOf t) : Thread nD τ)),
    (slotV (bufM b) (dstOf t)).view.loc (peer c (axOf t) : Thread nD τ) ↦[(slotV (bufM b) (dstOf t)).view.set]{fullShare} f)

/-- The share of its source that transfer `t` reads: slot 0 is read by three transfers and by the device itself, the
    others by one transfer and the device itself. -/
abbrev shareOf : Fin 7 → PosShare TreeShare :=
  ![fullShare.left, fullShare.right.left, fullShare.right.right.left, fullShare.left, fullShare.left, fullShare.left, fullShare.left]

instance slotPt_storable (b : Fin 2) (c : Dev nD) (s q) : BI.Storable (upEmb : UEmb _ 𝕄) (slotPt kv b c s q) := by
  unfold slotPt; infer_instance
instance landing_storable (b : Fin 2) (c : Dev nD) (t) : BI.Storable (upEmb : UEmb _ 𝕄) (landing (F := F) b c t) := by
  unfold landing; infer_instance

/-! ## The schedule -/

/-- What the signal of the partner along axis `d` hands over. -/
def barPay (c : Dev nD) : Fin 3 → sProp 𝕄
  | 0 => iprop(landing 0 c 0 ∗ landing 0 c 3 ∗ landing 0 c 6 ∗ landing 1 c 0 ∗ landing 1 c 3 ∗ landing 1 c 6)
  | 1 => iprop(landing 0 c 1 ∗ landing 0 c 4 ∗ landing 1 c 1 ∗ landing 1 c 4)
  | 2 => iprop(landing 0 c 2 ∗ landing 0 c 5 ∗ landing 1 c 2 ∗ landing 1 c 5)

instance barPay_storable (c : Dev nD) (d) : BI.Storable (upEmb : UEmb _ 𝕄) (barPay (F := F) c d) := by
  unfold barPay; split <;> infer_instance

def dutiesOf : SemLoc sig → Finset (Fin 3)
  | .reg s => Finset.univ
  | .dma q => match decode q with
    | some _ => {0}
    | none => ∅

def amountOf : SemLoc sig → ℕ
  | .reg _ => 1
  | .dma q => match decode q with
    | some (b, _, _) => amt b
    | none => 1

def payOf (c : Dev nD) : SemLoc sig → Fin 3 → sProp 𝕄
  | .reg _, d => barPay c d
  | .dma q, _ => match decode q with
    | some (b, 0, t) => slotPt kv b c (srcOf t) (shareOf t)
    | some (b, 1, t) => slotPt kv b c (dstOf t) fullShare
    | none => iprop(emp)

/-- One round of every cell. -/
def sched : Rounds.Schedule (GSem nD τ sig) (Fin 3) 𝕄 where
  duties g r := if r = 0 ∧ g.1.2 = .tc then dutiesOf g.2 else ∅
  unitless _ := False
  amount g _ _ := amountOf g.2
  payload g _ d := payOf kv g.1.1 g.2 d
  amount_pos g _ _ _ := by
    unfold amountOf
    split
    · exact Nat.one_pos
    · split
      · exact amt_pos _
      · exact Nat.one_pos

instance sched_payload_storable (g : GSem nD τ sig) (r : ℕ) (d : Fin 3) :
    BI.Storable (upEmb : UEmb _ 𝕄) ((sched (F := F) kv).payload g r d) := by
  show BI.Storable upEmb (payOf kv g.1.1 g.2 d)
  unfold payOf
  split
  · infer_instance
  · split <;> infer_instance

section Sched
variable (b : Fin 2) (t : Fin 7) (c : Dev nD)

theorem duties_bar : (sched kv).duties (barCell c) 0 = Finset.univ := by dsimp only [sched]; exact if_pos ⟨rfl, rfl⟩
theorem duties_send : (sched kv).duties (sendCell b t c) 0 = {0} := by
  dsimp only [sched, dutiesOf]; rw [if_pos ⟨rfl, rfl⟩, decode_send]
theorem duties_recv : (sched kv).duties (recvCell b t c) 0 = {0} := by
  dsimp only [sched, dutiesOf]; rw [if_pos ⟨rfl, rfl⟩, decode_recv]
theorem duties_later (g : GSem nD τ sig) : ∀ r, 1 ≤ r → (sched kv).duties g r = ∅ :=
  fun r hr => by dsimp only [sched]; exact if_neg fun h => by omega

theorem amount_bar (d : Fin 3) : (sched kv).amount (barCell c) 0 d = 1 := rfl
theorem amount_send (d : Fin 3) : (sched kv).amount (sendCell b t c) 0 d = amt b := by
  dsimp only [sched, amountOf]; rw [decode_send]
theorem amount_recv (d : Fin 3) : (sched kv).amount (recvCell b t c) 0 d = amt b := by
  dsimp only [sched, amountOf]; rw [decode_recv]

theorem expect_bar : (sched kv).expect (barCell c) 0 = 3 := by
  unfold Schedule.expect Schedule.amountOf
  rw [duties_bar, Finset.sum_congr rfl fun d _ => amount_bar kv c d, Finset.sum_const, Finset.card_univ, Fintype.card_fin, smul_eq_mul]
theorem expect_send : (sched kv).expect (sendCell b t c) 0 = amt b := by
  unfold Schedule.expect Schedule.amountOf; rw [duties_send, Finset.sum_singleton, amount_send]
theorem expect_recv : (sched kv).expect (recvCell b t c) 0 = amt b := by
  unfold Schedule.expect Schedule.amountOf; rw [duties_recv, Finset.sum_singleton, amount_recv]

theorem payload_bar (d : Fin 3) : (sched kv).payload (barCell c) 0 d = barPay c d := rfl
theorem payload_send (d : Fin 3) : (sched kv).payload (sendCell b t c) 0 d = slotPt kv b c (srcOf t) (shareOf t) := by
  dsimp only [sched, payOf]; rw [decode_send]
theorem payload_recv (d : Fin 3) : (sched kv).payload (recvCell b t c) 0 d = slotPt kv b c (dstOf t) fullShare := by
  dsimp only [sched, payOf]; rw [decode_recv]

theorem rest_bar : bigSep ((sched kv).duties (barCell c) 0 \ ∅) (fun d => (sched kv).payload (barCell c) 0 d)
    = iprop(barPay c 0 ∗ barPay c 1 ∗ barPay c 2) := by
  rw [Finset.sdiff_empty, duties_bar, bigSep_univ_eq_bigSepL [0, 1, 2] (by decide) (by decide)]; rfl
theorem rest_send : bigSep ((sched kv).duties (sendCell b t c) 0 \ ∅) (fun d => (sched kv).payload (sendCell b t c) 0 d)
    = slotPt kv b c (srcOf t) (shareOf t) := by
  rw [Finset.sdiff_empty, duties_send, bigSep_singleton, payload_send]
theorem rest_recv : bigSep ((sched kv).duties (recvCell b t c) 0 \ ∅) (fun d => (sched kv).payload (recvCell b t c) 0 d)
    = slotPt kv b c (dstOf t) fullShare := by
  rw [Finset.sdiff_empty, duties_recv, bigSep_singleton, payload_recv]

end Sched
end Contents

/-! ## What a device owes, and the levels -/

/-- A signal along an axis, or a transfer of a buffer. -/
abbrev Due := Fin 3 ⊕ (Fin 2 × Fin 7)

abbrev dueCell (c : Dev nD) : Due → GSem nD τ sig
  | .inl d => barCell (peer c d)
  | .inr (b, t) => recvCell b t (peer c (axOf t))
abbrev dueAmt : Due → ℕ
  | .inl _ => 1
  | .inr (b, _) => amt b

/-- The tally of a list of dues, the first of them the last summand. -/
def owedL (c : Dev nD) : List Due → CellTallies nD τ sig Unit
  | [] => 0
  | x :: xs => owedL c xs + tallyAt (dueCell c x) () (dueAmt x)

/-- Everything a device owes, in the order it pays. -/
abbrev allDue : List Due :=
  [.inl 0, .inl 1, .inl 2, .inr (0, 0), .inr (0, 1), .inr (0, 2), .inr (1, 0), .inr (1, 1), .inr (1, 2),
    .inr (0, 3), .inr (0, 4), .inr (0, 5), .inr (1, 3), .inr (1, 4), .inr (1, 5), .inr (0, 6), .inr (1, 6)]

/-- The stage of a transfer, counted from 2. -/
abbrev stageOf : Fin 7 → ℕ := ![2, 2, 2, 3, 3, 3, 4]

def levOf : SemLoc sig → ℕ
  | .reg _ => 1
  | .dma q => match decode q with
    | some (_, 1, t) => stageOf t
    | _ => 0

def L (g : GSem nD τ sig) : Finset Unit := if g.1.2 = .tc then {()} else ∅
def lv (g : GSem nD τ sig) (_ : Unit) : ℕ := levOf g.2

theorem L_of_ne (g : GSem nD τ sig) (h : g.1.2 ≠ .tc) : L g = ∅ := if_neg h
theorem L_tc (c : Dev nD) (sm : SemLoc sig) : L ((c : Thread nD τ), sm) = {()} := if_pos rfl

abbrev dueLev : Due → ℕ
  | .inl _ => 1
  | .inr (_, t) => stageOf t

theorem lv_due (c : Dev nD) (x : Due) : lv (dueCell c x) () = dueLev x := by
  rcases x with d | ⟨b, t⟩
  · rfl
  · show levOf (.dma (semAt (recvA b) t)) = stageOf t
    unfold levOf; simp only [decode_recv]
theorem lev_send (b : Fin 2) (t : Fin 7) : levOf (.dma (semAt (sendA b) t)) = 0 := by unfold levOf; simp only [decode_send]
theorem lev_recv (b : Fin 2) (t : Fin 7) : levOf (.dma (semAt (recvA b) t)) = stageOf t := by unfold levOf; simp only [decode_recv]

theorem owedL_pos {c : Dev nD} {g : GSem nD τ sig} {u : Unit} : ∀ {xs : List Due}, 0 < owedL c xs g u → ∃ x ∈ xs, g = dueCell c x
  | [], h => absurd h (Nat.lt_irrefl 0)
  | x :: xs, h => by
    by_cases hg : g = dueCell c x
    · exact ⟨x, List.mem_cons_self, hg⟩
    · unfold owedL at h
      rw [Pi.add_apply, Finsupp.add_apply, tallyAt_apply, if_neg (fun h' => hg h'.1), Nat.add_zero] at h
      obtain ⟨y, hy, e⟩ := owedL_pos h
      exact ⟨y, List.mem_cons_of_mem _ hy, e⟩

/-- A wait is safe while everything owed lies at a higher level. -/
theorem mayWait (c : Dev nD) (sm : SemLoc sig) (xs : List Due) (h : ∀ x ∈ xs, levOf sm < dueLev x) :
    (levAts L lv : sProp 𝕄) ⊢ MayWait (c : Thread nD τ) sm () (owedL c xs) :=
  MayOwe.of_cut (L := L) (lev := lv) (levOf sm) (fun p hp => by rw [Finset.mem_singleton.mp hp, L_tc]; exact Finset.mem_singleton_self _)
    (fun g u hg => by
      obtain ⟨x, -, rfl⟩ := owedL_pos hg
      rcases x with d | ⟨b, t⟩ <;> exact Finset.mem_singleton_self _)
    (fun p hp => by rw [Finset.mem_singleton.mp hp]; exact Nat.le_refl _)
    (fun g u hg => by obtain ⟨x, hx, rfl⟩ := owedL_pos hg; rw [lv_due]; exact h x hx)

end Cert.AttKernelIdeal

end
-- ==== Proof.KernelIdeal.Slots.lean ====
/-
# The slots of a gather buffer

Which elements a slot is, that the eight slots are the buffer, what a transfer leaves in the slot it writes, what a load
of a slot reads, and what storing the sixteen heads leaves in slot 0.
-/
module

public import proofs.«01_k».proof.Proof.KernelIdeal.Protocol

@[expose] public section

noncomputable section

namespace Cert.AttKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-! ## Which elements a slot is -/

theorem mem_slot {s : Fin 8} {x : S8x2x8x128x64.Idx} : x ∈ (slotRect s).set ↔ x 0 = s := by
  rw [Rect.mem_set_unit]
  constructor
  · intro h
    have h0 := h 0
    change s.val ≤ (x 0).val ∧ (x 0).val < s.val + 1 at h0
    exact Fin.ext (by omega)
  · intro h a
    have hlt := (x a).isLt
    fin_cases a
    · subst h; exact ⟨Nat.le_refl _, Nat.lt_succ_self _⟩
    all_goals exact ⟨Nat.zero_le _, by simpa using hlt⟩

theorem slot_set (A : Buf5) (s : Fin 8) : (slotV A s).view.set = (slotRect s).set.map A.view.emb := by
  show ((A.view.slice (slotRect s)).reshape _ _).set = _
  rw [View.set_reshape, View.set_slice]

theorem slot_disjoint (A : Buf5) {s s' : Fin 8} (h : s ≠ s') : Disjoint (slotV A s).view.set (slotV A s').view.set := by
  rw [slot_set, slot_set, Finset.disjoint_map, Finset.disjoint_left]
  intro x hx hx'
  exact h ((mem_slot.mp hx).symm.trans (mem_slot.mp hx'))

/-- The elements of slot `s`, as elements of the buffer. -/
abbrev slotSet (A : Buf5) (s : Fin 8) : Finset A.view.ty.Idx := (slotV A s).view.set

theorem slots_univ (A : Buf5) (hA : A.IsWhole) : Finset.univ.biUnion (slotSet A) = Finset.univ := by
  refine Finset.eq_univ_of_forall fun i => ?_
  have hi : i ∈ A.view.set := by rw [hA.set_eq_univ]; exact Finset.mem_univ i
  obtain ⟨x, -, rfl⟩ := Finset.mem_map.mp hi
  refine Finset.mem_biUnion.mpr ⟨x 0, Finset.mem_univ _, ?_⟩
  have key : ∀ s : Fin 8, x 0 = s → A.view.emb x ∈ slotSet A s := fun s hs => by
    unfold slotSet
    rw [slot_set]
    exact Finset.mem_map_of_mem A.view.emb (mem_slot.mpr hs)
  exact key _ rfl

/-- The eight slots are the buffer. -/
theorem slots_split (A : Buf5) (hA : A.IsWhole) (c : Dev nD) (q : PosShare TreeShare) (f : Buf (Elt F) (A.view.loc (c : Thread nD τ))) :
    (A.view.loc (c : Thread nD τ) ↦{q} f : sProp 𝕄)
      = bigSep Finset.univ fun s : Fin 8 => (slotV A s).view.loc (c : Thread nD τ) ↦[(slotV A s).view.set]{q} f := by
  rw [← pointsTo_biUnion (ℓ := A.view.loc (c : Thread nD τ)) Finset.univ (slotSet A)
    (fun s _ s' _ h => slot_disjoint A h), slots_univ A hA]

/-- Contents that read the same through a slot agree on its elements. -/
theorem slot_agree (A : Buf5) (s : Fin 8) {f g : A.view.ty.Contents (Elt F)}
    (h : ∀ x, x 0 = s → A.view.read (Elt F) f x = A.view.read (Elt F) g x) : ∀ i ∈ (slotV A s).view.set, f i = g i := by
  intro i hi
  rw [slot_set] at hi
  obtain ⟨x, hx, rfl⟩ := Finset.mem_map.mp hi
  have := h x (mem_slot.mp hx)
  rw [View.read_apply, View.read_apply] at this
  exact (cast_inj (congrArg (Elt F) A.view.elt_eq)).mp this

/-! ## Contents -/

/-- A device's keys or values as a slot holds them. -/
def chunkV (X : FVec F S2x128x8x64 .f32) : FVec F S1x2x8x128x64 .bf16 := fun k =>
  storePay (kvMat X) (headNo (k 1) (k 2)) (ValueIdx.ix5 0 0 0 (k 3) (k 4))

section
variable (kv : Fin 2 → Dev nD → FVec F S2x128x8x64 .f32)

theorem gath_slot (b : Fin 2) (c : Dev nD) (s : Fin 8) (k : S1x2x8x128x64.Idx) :
    gath kv b c ((slotRect s).emb k) = chunkV (kv b (holder c s)) k := by
  have e0 : (slotRect s).emb k 0 = s := Fin.ext (by
    have : (k 0).val < 1 := (k 0).isLt
    show s.val + 1 * (k 0).val = s.val; omega)
  have e1 : (slotRect s).emb k 1 = k 1 := Fin.ext (by show 0 + 1 * (k 1).val = (k 1).val; omega)
  have e2 : (slotRect s).emb k 2 = k 2 := Fin.ext (by show 0 + 1 * (k 2).val = (k 2).val; omega)
  have e3 : (slotRect s).emb k 3 = k 3 := Fin.ext (by show 0 + 1 * (k 3).val = (k 3).val; omega)
  have e4 : (slotRect s).emb k 4 = k 4 := Fin.ext (by show 0 + 1 * (k 4).val = (k 4).val; omega)
  unfold gath chunkV
  rw [e0, e1, e2, e3, e4]

theorem read_slotV (A : Buf5) (s : Fin 8) (f : A.view.ty.Contents (Elt F)) (j : S2x8x128x64.Idx) :
    (slotV A s).view.read (Elt F) f j = A.view.read (Elt F) f ((slotRect s).emb (Shape.reshapeEquiv squeezes_S1x2x8x128x64_S2x8x128x64.numel_eq j)) := rfl

/-- A transfer leaves in the slot it writes the chunk that the slot is for. -/
theorem landed (b : Fin 2) (c : Dev nD) (t : Fin 7)
    (fd : Buf (Elt F) ((slotV (bufM b) (dstOf t)).view.loc (peer c (axOf t) : Thread nD τ))) :
    ((slotV (bufM b) (dstOf t)).view.loc (peer c (axOf t) : Thread nD τ) ↦[(slotV (bufM b) (dstOf t)).view.set]{fullShare}
        (slotV (bufM b) (dstOf t)).view.write (Elt F) fd ((slotV (bufM b) (srcOf t)).view.read (Elt F) (gathBuf kv b c)) Finset.univ : sProp 𝕄)
      = slotPt kv b (peer c (axOf t)) (dstOf t) fullShare := by
  unfold slotPt
  refine pointsTo_congr fun i hi => ?_
  obtain ⟨x, -, rfl⟩ := Finset.mem_map.mp hi
  have e : (slotV (bufM b) (srcOf t)).view.read (Elt F) (gathBuf kv b c) x
      = (slotV (bufM b) (dstOf t)).view.read (Elt F) (gathBuf kv b (peer c (axOf t))) x := by
    rw [read_slotV, read_slotV]
    erw [(bufM_whole b).read_unread, (bufM_whole b).read_unread]
    rw [gath_slot, gath_slot, holder_send]
  rw [View.write_emb_of_mem _ _ (Finset.mem_univ x), e, View.read_apply, cast_cast, cast_eq]

/-- What a load of slot `s` reads. -/
theorem read_loadSlot (b : Fin 2) (c : Dev nD) (s : Fin 8) :
    (bufM b).view.readAt (Elt F) (slotRect s).toLoadRect (gathBuf kv b c) = chunkV (kv b (holder c s)) := by
  funext k
  show (bufM b).view.read (Elt F) (gathBuf kv b c) ((slotRect s).emb k) = _
  erw [(bufM_whole b).read_unread]
  rw [gath_slot]

theorem slot_setOn (A : Buf5) (s : Fin 8) : A.view.setOn (slotRect s).toLoadRect.set = (slotV A s).view.set := by
  rw [slot_set]; rfl

/-! ## Storing the heads -/

/-- The contents after the heads `is` of `X` have been stored. -/
def storeAll (A : Buf5) (X : FVec F S256x512 .f32) : List (Fin 16) → A.view.ty.Contents (Elt F) → A.view.ty.Contents (Elt F)
  | [], f => f
  | i :: is, f => storeAll A X is ((A.access (headRect i)).write (Elt F) f (storePay X i) Finset.univ)

theorem mem_head {i : Fin 16} {x : S8x2x8x128x64.Idx} : x ∈ (headRect i).set ↔ x 0 = (0 : Fin 8) ∧ headNo (x 1) (x 2) = i := by
  rw [Rect.mem_set_unit]
  have h1 : (x 1).val < 2 := (x 1).isLt
  have h2 : (x 2).val < 8 := (x 2).isLt
  constructor
  · intro h
    have a0 := h 0
    have a1 := h 1
    have a2 := h 2
    change 0 ≤ (x 0).val ∧ (x 0).val < 0 + 1 at a0
    change i.val / 8 ≤ (x 1).val ∧ (x 1).val < i.val / 8 + 1 at a1
    change i.val % 8 ≤ (x 2).val ∧ (x 2).val < i.val % 8 + 1 at a2
    exact ⟨Fin.ext (by show (x 0).val = 0; omega), Fin.ext (by show 8 * (x 1).val + (x 2).val = i.val; omega)⟩
  · rintro ⟨h0, hi⟩ a
    have hi' : 8 * (x 1).val + (x 2).val = i.val := congrArg Fin.val hi
    have hlt := (x a).isLt
    fin_cases a
    · have : (x 0).val = 0 := congrArg Fin.val h0
      show 0 ≤ (x 0).val ∧ (x 0).val < 0 + 1
      omega
    · show i.val / 8 ≤ (x 1).val ∧ (x 1).val < i.val / 8 + 1
      omega
    · show i.val % 8 ≤ (x 2).val ∧ (x 2).val < i.val % 8 + 1
      omega
    all_goals exact ⟨Nat.zero_le _, by simpa using hlt⟩

theorem head_subset (i : Fin 16) : (headRect i).set ⊆ (slotRect 0).set := fun x hx => mem_slot.mpr (mem_head.mp hx).1

theorem head_emb (i : Fin 16) (k : S1x1x1x128x64.Idx) : k = ValueIdx.ix5 0 0 0 ((headRect i).emb k 3) ((headRect i).emb k 4) := by
  funext a
  have h0 := (k a).isLt
  fin_cases a
  · exact Fin.ext (by have : (k 0).val < 1 := (k 0).isLt; show (k 0).val = 0; omega)
  · exact Fin.ext (by have : (k 1).val < 1 := (k 1).isLt; show (k 1).val = 0; omega)
  · exact Fin.ext (by have : (k 2).val < 1 := (k 2).isLt; show (k 2).val = 0; omega)
  · exact Fin.ext (by show (k 3).val = 0 + 1 * (k 3).val; omega)
  · exact Fin.ext (by show (k 4).val = 0 + 1 * (k 4).val; omega)

/-- An element of slot 0 whose head is among those stored, or that held its value before, holds its value. -/
theorem read_storeAll (A : Buf5) (X : FVec F S256x512 .f32) : ∀ (is : List (Fin 16)) (f : A.view.ty.Contents (Elt F)) (x : S8x2x8x128x64.Idx),
    x 0 = (0 : Fin 8) → headNo (x 1) (x 2) ∈ is ∨ A.view.read (Elt F) f x = storePay X (headNo (x 1) (x 2)) (ValueIdx.ix5 0 0 0 (x 3) (x 4)) →
    A.view.read (Elt F) (storeAll A X is f) x = storePay X (headNo (x 1) (x 2)) (ValueIdx.ix5 0 0 0 (x 3) (x 4))
  | [], f, x, _, h => h.resolve_left (List.not_mem_nil)
  | i :: is, f, x, h0, h => by
    refine read_storeAll A X is _ x h0 ?_
    by_cases hx : x ∈ (headRect i).set
    · right
      have hi := (mem_head.mp hx).2
      rw [← Rect.map_emb_univ] at hx
      obtain ⟨k, -, rfl⟩ := Finset.mem_map.mp hx
      have key : ∀ j, j = i → storePay X i k = storePay X j (ValueIdx.ix5 0 0 0 ((headRect i).emb k 3) ((headRect i).emb k 4)) := by
        rintro j rfl
        exact congrArg _ (head_emb j k)
      exact (View.read_slice_write_emb (v := A.view) (headRect i) f (storePay X i) (Finset.mem_univ k)).trans (key _ hi)
    · rcases h with h | h
      · rcases List.mem_cons.mp h with h | h
        · exact absurd (mem_head.mpr ⟨h0, h⟩) hx
        · exact Or.inl h
      · right
        exact (View.read_slice_write_of_not_mem (v := A.view) (headRect i) f _ _ (by rw [Rect.map_emb_univ]; exact hx)).trans h

/-- Slot 0 after all sixteen heads. -/
theorem stored (b : Fin 2) (c : Dev nD) (f : Buf (Elt F) ((bufM b).view.loc (c : Thread nD τ))) :
    ((slotV (bufM b) 0).view.loc (c : Thread nD τ) ↦[(slotV (bufM b) 0).view.set]{fullShare} storeAll (bufM b) (kvMat (kv b c)) heads f : sProp 𝕄)
      = slotPt kv b c 0 fullShare := by
  unfold slotPt
  refine pointsTo_congr (slot_agree (bufM b) 0 fun x hx => ?_)
  rw [read_storeAll (bufM b) _ heads f x hx (Or.inl (by generalize headNo (x 1) (x 2) = i; revert i; decide))]
  erw [(bufM_whole b).read_unread]
  unfold gath
  rw [hx]
  rfl

end

end Cert.AttKernelIdeal

end
-- ==== Proof.KernelIdeal.Ops.lean ====
/-
# One rule per operation of the kernel, at a symbolic device and transfer

Each rule is stated at the head of a program: what the operation takes, what it gives back to the rest.
-/
module

public import proofs.«01_k».proof.Proof.KernelIdeal.Slots

@[expose] public section

noncomputable section

namespace Cert.AttKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev run (c : Dev nD) {α : Type} (p : P F α) (Q : α → sProp 𝕄) : sProp 𝕄 :=
  wp frame (wpE (defs₀ (F := F)) 𝒱₀ (c : Thread nD τ) none) Set.univ p Q

/-! ## The cells and what is known of them -/

/-- A buffer, an end (`0` send, `1` receive) and a transfer. -/
abbrev Xfer := Fin 2 × Fin 2 × Fin 7
/-- A device's cells: the barrier's, and one for each end of each transfer. -/
abbrev CI := Unit ⊕ Xfer

abbrev osem (x : Xfer) : SemLoc sig := .dma (semAt ((![sendA, recvA] : Fin 2 → Fin 2 → DmaSems sig S7) x.2.1 x.1) x.2.2)
abbrev csem : CI → SemLoc sig
  | .inl _ => .reg barS
  | .inr x => osem x
abbrev kcell (ck : Dev nD × CI) : GSem nD τ sig := ((ck.1 : Thread nD τ), csem ck.2)

section Ops
variable (kv : Fin 2 → Dev nD → FVec F S2x128x8x64 .f32) (K : Dev nD × CI → ℕ)

/-- Every cell's invariant, and that every cell has reached its round. -/
def records : sProp 𝕄 :=
  iprop((bigSep Finset.univ fun ck : Dev nD × CI => cellInv ER (sched kv) (K ck) (kcell ck))
    ∗ bigSep Finset.univ fun ck : Dev nD × CI => reached ER (kcell ck) 0)

instance records_persistent : BI.Persistent (records kv K) := by unfold records; infer_instance

theorem inv_at (ck : Dev nD × CI) : records kv K ⊢ cellInv ER (sched kv) (K ck) (kcell ck) := by
  have h : (bigSep Finset.univ fun ck : Dev nD × CI => (cellInv ER (sched kv) (K ck) (kcell ck) : sProp 𝕄))
      ⊢ cellInv ER (sched kv) (K ck) (kcell ck) := bigSep_elim (Finset.mem_univ ck)
  unfold records
  iintro ⟨H, -⟩
  iapply h; iexact H
theorem reached_at (ck : Dev nD × CI) : records kv K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records
  iintro ⟨-, H⟩
  iapply h; iexact H

/-- What device `c` still owes. -/
def owing (c : Dev nD) (xs : List Due) : sProp 𝕄 := iprop(∃ W, owes (c : Thread nD τ) (owedL c xs) W)

/-- What device `c` starts transfer `t` with: the two tokens it pays with, and its place at the send cell. -/
def toSend (b : Fin 2) (t : Fin 7) (c : Dev nD) : sProp 𝕄 :=
  iprop(dutyTok ER (sendCell b t c) 0 (0 : Fin 3) ∗ dutyTok ER (recvCell b t (peer c (axOf t))) 0 (0 : Fin 3) ∗ atPos ER (sendCell b t c) 0 ∅ 0)
/-- What it waits with for transfer `t` to have been read, -/
def sent (b : Fin 2) (t : Fin 7) (c : Dev nD) : sProp 𝕄 :=
  iprop(cred (tallyAt (sendCell b t c) () (amt b)) ∗ atPos ER (sendCell b t c) 0 ∅ 0)
/-- and for its partner's transfer `t` to have landed. -/
def toRecv (b : Fin 2) (t : Fin 7) (c : Dev nD) : sProp 𝕄 :=
  iprop(cred (tallyAt (recvCell b t c) () (amt b)) ∗ atPos ER (recvCell b t c) 0 ∅ 0)

variable (c : Dev nD) {α : Type} (xs : List Due)

/-! ## The operations -/

theorem run_deviceId {k : Dev nD → P F α} {Q : α → sProp 𝕄} : run c (k c) Q ⊢ run c (Prog.lift .deviceId >>= k) Q := by
  show _ ⊢ run c (.op .deviceId k) Q
  unfold run
  rw [wp_deviceId]

theorem run_signal (d : Fin 3) {k : PUnit → P F α} {Q : α → sProp 𝕄} :
    iprop(records kv K ∗ owing c (.inl d :: xs) ∗ dutyTok ER (barCell (peer c d)) 0 d ∗ barPay (peer c d) d)
      ⊢ iprop((owing c xs -∗ run c (k ⟨⟩) Q) -∗ run c (semSignalWord (peer c d) barS 1#32 >>= k) Q) := by
  unfold owing
  show _ ⊢ iprop(_ -∗ run c (.op (.semSignal (peer c d : Thread nD τ) barS ((1 : ℕ) : Int)) k) Q)
  iintro ⟨#HR, ⟨%W, HO⟩, Htok, Hpay⟩ Hk
  iapply (Rounds.wp_signal 𝒱₀ ER (sched kv) (c : Thread nD τ) none (dst := (peer c d : Thread nD τ)) (κ := K (peer c d, .inl ()))
      (d := d) (r := 0) (by rw [duties_bar]; exact Finset.mem_univ _) (amount_bar kv (peer c d) d) () (owedL c xs) rfl) $$ [HO Htok Hpay]
  · isplitr; · iapply (inv_at kv K (peer c d, .inl ())); iexact HR
    isplitl [HO]; · iexact HO
    isplitl [Htok]; · iexact Htok
    isplitl [Hpay]; · rw [payload_bar]; iexact Hpay
    iapply (reached_at kv K (peer c d, .inl ())); iexact HR
  iintro HO
  iapply Hk
  iexists W; iexact HO

theorem run_barWait {k : PUnit → P F α} {Q : α → sProp 𝕄} (h : ∀ x ∈ xs, 1 < dueLev x) :
    iprop(records kv K ∗ levAts L lv ∗ cred (tallyAt (barCell c) () 3) ∗ atPos ER (barCell c) 0 ∅ 0 ∗ owing c xs)
      ⊢ iprop((owing c xs ∗ semVal (barCell c) 0 ∗ barPay c 0 ∗ barPay c 1 ∗ barPay c 2 -∗ run c (k ⟨⟩) Q)
          -∗ run c (semWaitWord barS 3#32 >>= k) Q) := by
  unfold owing
  show _ ⊢ iprop(_ -∗ run c (.op (.semWait barS 3) k) Q)
  iintro ⟨#HR, #Hlev, Hc, Hat, ⟨%W, HO⟩⟩ Hk
  iapply (Rounds.wp_wait_rest_token 𝒱₀ ER (sched kv) (c : Thread nD τ) none (κ := K (c, .inl ()))
      (wpE_semWait_eq 𝒱₀ (c : Thread nD τ) none Set.univ) (Set.mem_univ _) () (O := owedL c xs) (W := W) (R := 0) (m := 0) (T := ∅)
      (by rw [expect_bar])) $$ [Hc HO Hat]
  · isplitr; · iapply (inv_at kv K (c, .inl ())); iexact HR
    isplitl [Hc]; · iexact Hc
    isplitl [HO]; · iexact HO
    isplitr; · iapply (mayWait c (.reg barS) xs h); iexact Hlev
    iexact Hat
  iintro ⟨HO, Hat, -, Hpay⟩
  ihave Hp := (Entails.of_eq (rest_bar kv c)) $$ Hpay
  imod (Rounds.cell_close ER (sched kv) (Set.mem_univ (K (c, .inl ()))) (fun h => h) (R := 0 + 1) (duties_later kv (barCell c))) $$ [Hat] with Hz
  · isplitr; · iapply (inv_at kv K (c, .inl ())); iexact HR
    iexact Hat
  iapply Hk
  isplitl [HO]
  · iexists _; iexact HO
  isplitl [Hz]; · iexact Hz
  iexact Hp

theorem amt_dst (b : Fin 2) (t : Fin 7) (q : DmaSem sig) : (slotV (bufM b) (dstOf t)).view.amount (.dma q) = amt b := rfl

theorem run_send (b : Fin 2) (t : Fin 7) {hA} {k : PUnit → P F α} {Q : α → sProp 𝕄} :
    iprop(records kv K ∗ owing c (.inr (b, t) :: xs) ∗ toSend b t c ∗ slotPt kv b c (srcOf t) (shareOf t) ∗ landing b c t)
      ⊢ iprop((owing c xs ∗ sent b t c -∗ run c (k ⟨⟩) Q)
          -∗ run c (send (bufM b) hA (sendA b) (recvA b) c t >>= k) Q) := by
  unfold toSend landing sent owing
  simp only [Prog.lift, Prog.bind_op, Prog.bind_ret]
  iintro ⟨#HR, ⟨%W, HO⟩, ⟨Hts, Htr, Hat⟩, Hsrc, ⟨%fd, Hdst⟩⟩ Hk
  have hw := Rounds.wp_send_pointsTo (defs := defs₀ (F := F)) (Γ := .empty) (Q := Q) (k := k) 𝒱₀ ER (sched kv) (c : Thread nD τ) none
    (c' := (peer c (axOf t) : Thread nD τ)) (src := slotV (bufM b) (srcOf t)) (dst := slotV (bufM b) (dstOf t))
    (sS := .dma (semAt (sendA b) t)) (sem := .dma (semAt (recvA b) t)) (hsc := rfl) (hsrc := words_slotV (bufM b) hA (srcOf t))
    (hdst := words_slotV (bufM b) hA (dstOf t)) (hsem := ⟨⟨rfl, Or.inl rfl⟩, trivial⟩)
    (κ₁ := K (c, .inr (b, 0, t))) (κ₂ := K (peer c (axOf t), .inr (b, 1, t)))
    (r₁ := 0) (r₂ := 0) (d₁ := (0 : Fin 3)) (d₂ := (0 : Fin 3)) (fd := fd) (fs := gathBuf kv b c) (q := shareOf t)
    (by rw [duties_send]; exact Finset.mem_singleton_self _) (by rw [duties_recv]; exact Finset.mem_singleton_self _)
    () () (amt b) (amt_dst b t _) (amount_send kv b t c 0) (amount_recv kv b t (peer c (axOf t)) 0) (owedL c xs) rfl (W := W)
    (by rw [payload_send]; exact BI.Entails.refl _)
    (by rw [payload_recv, landed]) (Es := Set.univ)
  iapply hw $$ [HO Hts Htr Hsrc Hdst]
  · isplitr; · iapply (inv_at kv K (c, .inr (b, 0, t))); iexact HR
    isplitr; · iapply (inv_at kv K (peer c (axOf t), .inr (b, 1, t))); iexact HR
    isplitl [Hsrc]; · unfold slotPt; iexact Hsrc
    isplitl [Hdst]; · iexact Hdst
    isplitl [HO]; · iexact HO
    isplitl [Hts]; · iexact Hts
    isplitr; · iapply (reached_at kv K (c, .inr (b, 0, t))); iexact HR
    isplitl [Htr]; · iexact Htr
    iapply (reached_at kv K (peer c (axOf t), .inr (b, 1, t))); iexact HR
  iintro ⟨Hc, HO⟩
  iapply Hk
  isplitl [HO]
  · iexists _; iexact HO
  isplitl [Hc] <;> iassumption

theorem run_waitRecv (b : Fin 2) (t : Fin 7) {hA} {k : PUnit → P F α} {Q : α → sProp 𝕄} (h : ∀ x ∈ xs, stageOf t < dueLev x) :
    iprop(records kv K ∗ levAts L lv ∗ toRecv b t c ∗ owing c xs)
      ⊢ iprop((owing c xs ∗ semVal (recvCell b t c) 0 ∗ slotPt kv b c (dstOf t) fullShare -∗ run c (k ⟨⟩) Q)
          -∗ run c (waitRecv (bufM b) hA (recvA b) t >>= k) Q) := by
  unfold toRecv owing
  show _ ⊢ iprop(_ -∗ run c (.op (.waitDma2 (semAt (recvA b) t) (slotV (bufM b) (srcOf t)) (slotV (bufM b) (dstOf t)) _ _) k) Q)
  iintro ⟨#HR, #Hlev, ⟨Hc, Hat⟩, ⟨%W, HO⟩⟩ Hk
  iapply (Rounds.wp_wait_rest_token 𝒱₀ ER (sched kv) (c : Thread nD τ) none (κ := K (c, .inr (b, 1, t)))
      (wpE_waitDma2_eq 𝒱₀ (c : Thread nD τ) none Set.univ) (Set.mem_univ _) () (O := owedL c xs) (W := W) (R := 0) (m := 0) (T := ∅)
      (by rw [Nat.zero_add, expect_recv])) $$ [Hc HO Hat]
  · isplitr; · iapply (inv_at kv K (c, .inr (b, 1, t))); iexact HR
    isplitl [Hc]; · iexact Hc
    isplitl [HO]; · iexact HO
    isplitr; · iapply (mayWait c (.dma (semAt (recvA b) t)) xs (by rw [lev_recv]; exact h)); iexact Hlev
    iexact Hat
  iintro ⟨HO, Hat, -, Hpay⟩
  ihave Hp := (Entails.of_eq (rest_recv kv b t c)) $$ Hpay
  imod (Rounds.cell_close ER (sched kv) (Set.mem_univ (K (c, .inr (b, 1, t)))) (fun h => h) (R := 0 + 1) (duties_later kv (recvCell b t c))) $$ [Hat] with Hz
  · isplitr; · iapply (inv_at kv K (c, .inr (b, 1, t))); iexact HR
    iexact Hat
  iapply Hk
  isplitl [HO]
  · iexists _; iexact HO
  isplitl [Hz]; · iexact Hz
  iexact Hp

theorem run_waitSend (b : Fin 2) (t : Fin 7) {hA} {k : PUnit → P F α} {Q : α → sProp 𝕄} (h : ∀ x ∈ xs, 0 < dueLev x) :
    iprop(records kv K ∗ levAts L lv ∗ sent b t c ∗ owing c xs)
      ⊢ iprop((owing c xs ∗ semVal (sendCell b t c) 0 ∗ slotPt kv b c (srcOf t) (shareOf t) -∗ run c (k ⟨⟩) Q)
          -∗ run c (waitSend (bufM b) hA (sendA b) t >>= k) Q) := by
  unfold sent owing
  show _ ⊢ iprop(_ -∗ run c (.op (.waitDma2 (semAt (sendA b) t) (slotV (bufM b) (dstOf t)) (slotV (bufM b) (srcOf t)) _ _) k) Q)
  iintro ⟨#HR, #Hlev, ⟨Hc, Hat⟩, ⟨%W, HO⟩⟩ Hk
  iapply (Rounds.wp_wait_rest_token 𝒱₀ ER (sched kv) (c : Thread nD τ) none (κ := K (c, .inr (b, 0, t)))
      (wpE_waitDma2_eq 𝒱₀ (c : Thread nD τ) none Set.univ) (Set.mem_univ _) () (O := owedL c xs) (W := W) (R := 0) (m := 0) (T := ∅)
      (by rw [Nat.zero_add, expect_send])) $$ [Hc HO Hat]
  · isplitr; · iapply (inv_at kv K (c, .inr (b, 0, t))); iexact HR
    isplitl [Hc]; · iexact Hc
    isplitl [HO]; · iexact HO
    isplitr; · iapply (mayWait c (.dma (semAt (sendA b) t)) xs (by rw [lev_send]; exact h)); iexact Hlev
    iexact Hat
  iintro ⟨HO, Hat, -, Hpay⟩
  ihave Hp := (Entails.of_eq (rest_send kv b t c)) $$ Hpay
  imod (Rounds.cell_close ER (sched kv) (Set.mem_univ (K (c, .inr (b, 0, t)))) (fun h => h) (R := 0 + 1) (duties_later kv (sendCell b t c))) $$ [Hat] with Hz
  · isplitr; · iapply (inv_at kv K (c, .inr (b, 0, t))); iexact HR
    iexact Hat
  iapply Hk
  isplitl [HO]
  · iexists _; iexact HO
  isplitl [Hz]; · iexact Hz
  iexact Hp

theorem run_loadSlot (b : Fin 2) (s : Fin 8) (q : PosShare TreeShare) {k : Vec F S1x2x8x128x64 .bf16 → P F α} {Q : α → sProp 𝕄} :
    slotPt kv b c s q ⊢ iprop((slotPt kv b c s q -∗ run c (k (chunkV (kv b (holder c s)))) Q) -∗ run c (loadSlot (bufM b) s >>= k) Q) := by
  rw [← read_loadSlot kv b c s]
  unfold slotPt
  exact wp_load 𝒱₀ (c : Thread nD τ) none Set.univ (m := bufM b) (r := (slotRect s).toLoadRect) (by rw [slot_setOn])

theorem head_sub (b : Fin 2) (i : Fin 16) : (bufM b).view.setOn (headRect i).toLoadRect.set ⊆ (slotV (bufM b) 0).view.set := by
  rw [← slot_setOn]; exact Finset.map_subset_map.mpr (head_subset i)
theorem head_sub' (b : Fin 2) (i : Fin 16) : ((bufM b).access (headRect i)).setOn Finset.univ ⊆ (slotV (bufM b) 0).view.set := by
  refine subset_trans (Eq.subset ?_) (head_sub b i)
  show ((bufM b).view.slice (headRect i)).set = _
  rw [View.set_slice]; rfl

/-- Storing heads, over what slot 0 held. -/
theorem run_storeHeads (b : Fin 2) (hA) (X : FVec F S256x512 .f32) (k : P F PUnit) {Q : PUnit → sProp 𝕄} (is : List (Fin 16))
    (f : Buf (Elt F) ((bufM b).view.loc (c : Thread nD τ))) :
    ((slotV (bufM b) 0).view.loc (c : Thread nD τ) ↦[(slotV (bufM b) 0).view.set]{fullShare} f)
      ⊢ iprop((((slotV (bufM b) 0).view.loc (c : Thread nD τ) ↦[(slotV (bufM b) 0).view.set]{fullShare} storeAll (bufM b) X is f) -∗ run c k Q)
          -∗ run c (storeHeads (bufM b) hA X is k) Q) := by
  induction is generalizing f with
  | nil =>
    rw [storeHeads]
    iintro H Hk
    iapply Hk; rw [storeAll]; iexact H
  | cons i is ih =>
    rw [storeHeads, storeAll]
    simp only [Prog.lift, Prog.bind_op, Prog.bind_ret]
    iintro H Hk
    iapply (wp_load 𝒱₀ (c : Thread nD τ) none Set.univ (m := bufM b) (r := (headRect i).toLoadRect) (head_sub b i)) $$ H; iintro H
    iapply (wp_store 𝒱₀ (c : Thread nD τ) none Set.univ (m := bufM b) (r := headRect i) (Mk := Finset.univ) (head_sub' b i)) $$ H; iintro H
    iapply (ih _) $$ H
    iexact Hk

theorem run_gather (b : Fin 2) {hA} (k : P F PUnit) {Q : PUnit → sProp 𝕄} (f : Buf (Elt F) ((bufM b).view.loc (c : Thread nD τ))) :
    ((slotV (bufM b) 0).view.loc (c : Thread nD τ) ↦[(slotV (bufM b) 0).view.set]{fullShare} f)
      ⊢ iprop((slotPt kv b c 0 fullShare -∗ run c k Q) -∗ run c (storeHeads (bufM b) hA (kvMat (kv b c)) heads k) Q) := by
  rw [← stored kv b c f]
  exact run_storeHeads c b hA (kvMat (kv b c)) k heads f

/-! ## Waiting for all the sends -/

def sentL : List (Fin 7) → sProp 𝕄
  | [] => iprop(emp)
  | t :: ts => iprop(sent 0 t c ∗ sent 1 t c ∗ sentL ts)
def backL : List (Fin 7) → sProp 𝕄
  | [] => iprop(emp)
  | t :: ts => iprop((semVal (sendCell 0 t c) 0 ∗ slotPt kv 0 c (srcOf t) (shareOf t))
      ∗ (semVal (sendCell 1 t c) 0 ∗ slotPt kv 1 c (srcOf t) (shareOf t)) ∗ backL ts)

theorem run_waitSends {hA hB} {Q : PUnit → sProp 𝕄} : ∀ ts : List (Fin 7),
    iprop(records kv K ∗ levAts L lv ∗ sentL c ts ∗ owing c [])
      ⊢ iprop((owing c [] ∗ backL kv c ts -∗ Q ⟨⟩) -∗ run c (waitSends (bufM 0) (bufM 1) hA hB (sendA 0) (sendA 1) ts) Q)
  | [] => by
    unfold waitSends backL
    show _ ⊢ iprop(_ -∗ run c (.ret ⟨⟩) Q)
    unfold run
    iintro ⟨-, -, -, HO⟩ Hk
    rw [wp_ret]; imodintro
    iapply Hk
    isplitl [HO]; · iexact HO
    iempintro
  | t :: ts => by
    unfold waitSends sentL backL
    iintro ⟨#HR, #Hlev, ⟨H0, H1, Hs⟩, HO⟩ Hk
    iapply (run_waitSend kv K c [] 0 t (fun _ h => absurd h List.not_mem_nil)) $$ [H0 HO]
    · isplitr; · iexact HR
      isplitr; · iexact Hlev
      isplitl [H0] <;> iassumption
    iintro ⟨HO, Hb0⟩
    iapply (run_waitSend kv K c [] 1 t (fun _ h => absurd h List.not_mem_nil)) $$ [H1 HO]
    · isplitr; · iexact HR
      isplitr; · iexact Hlev
      isplitl [H1] <;> iassumption
    iintro ⟨HO, Hb1⟩
    iapply (run_waitSends ts) $$ [Hs HO]
    · isplitr; · iexact HR
      isplitr; · iexact Hlev
      isplitl [Hs] <;> iassumption
    iintro ⟨HO, Hb⟩
    iapply Hk
    isplitl [HO]; · iexact HO
    isplitl [Hb0]; · iexact Hb0
    isplitl [Hb1] <;> iassumption

end Ops

end Cert.AttKernelIdeal

end
-- ==== Proof.KernelIdeal.Stages.lean ====
/-
# The stages of the exchange

The shares a slot is split into, and the runs of operations the body repeats: the three opening sends of a buffer, a
landing forwarded at once, the two slots of a chunk loaded.
-/
module

public import proofs.«01_k».proof.Proof.KernelIdeal.Ops

@[expose] public section

noncomputable section

namespace Cert.AttKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The share of slot 0 that no transfer takes. -/
abbrev q0 : PosShare TreeShare := fullShare.right.right.right
/-- The share of another slot that no transfer takes. -/
abbrev q1 : PosShare TreeShare := fullShare.right

section Shares
variable (kv : Fin 2 → Dev nD → FVec F S2x128x8x64 .f32) (b : Fin 2) (c : Dev nD)

theorem slot_halve (s : Fin 8) (q : PosShare TreeShare) : slotPt kv b c s q ⊢ iprop(slotPt kv b c s q.left ∗ slotPt kv b c s q.right) :=
  (pointsTo_share (PosShare.mem_left_op_right q)).1
theorem slot_join (s : Fin 8) (q : PosShare TreeShare) : iprop(slotPt kv b c s q.left ∗ slotPt kv b c s q.right) ⊢ slotPt kv b c s q :=
  (pointsTo_share (PosShare.mem_left_op_right q)).2

theorem slot0_split : slotPt kv b c 0 fullShare
    ⊢ iprop(slotPt kv b c 0 (shareOf 0) ∗ slotPt kv b c 0 (shareOf 1) ∗ slotPt kv b c 0 (shareOf 2) ∗ slotPt kv b c 0 q0) :=
  (slot_halve kv b c 0 _).trans (sep_mono_right ((slot_halve kv b c 0 _).trans (sep_mono_right (slot_halve kv b c 0 _))))
theorem slot0_join : iprop(slotPt kv b c 0 (shareOf 0) ∗ slotPt kv b c 0 (shareOf 1) ∗ slotPt kv b c 0 (shareOf 2) ∗ slotPt kv b c 0 q0)
    ⊢ slotPt kv b c 0 fullShare :=
  (sep_mono_right ((sep_mono_right (slot_join kv b c 0 _)).trans (slot_join kv b c 0 _))).trans (slot_join kv b c 0 _)

/-- Slot `s`, held whole at contents not said. -/
def slotAny (b : Fin 2) (c : Dev nD) (s : Fin 8) : sProp 𝕄 :=
  iprop(∃ f : Buf (Elt F) ((slotV (bufM b) s).view.loc (c : Thread nD τ)),
    (slotV (bufM b) s).view.loc (c : Thread nD τ) ↦[(slotV (bufM b) s).view.set]{fullShare} f)

theorem slotAny_intro (b : Fin 2) (c : Dev nD) (s : Fin 8) (f : Buf (Elt F) ((slotV (bufM b) s).view.loc (c : Thread nD τ))) :
    ((slotV (bufM b) s).view.loc (c : Thread nD τ) ↦[(slotV (bufM b) s).view.set]{fullShare} f : sProp 𝕄) ⊢ slotAny b c s := by
  unfold slotAny
  iintro H
  iexists f; iexact H

/-- A buffer, held whole at contents not said. -/
def bufAny (b : Fin 2) (c : Dev nD) : sProp 𝕄 :=
  iprop(∃ f : Buf (Elt F) ((bufM b).view.loc (c : Thread nD τ)), (bufM b).view.loc (c : Thread nD τ) ↦{fullShare} f)

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A buffer's slots before anything has landed. -/
theorem buf_open : bufAny (F := F) b c ⊢ iprop(slotAny b c 0 ∗ slotAny b c 1 ∗ slotAny b c 2 ∗ slotAny b c 3
    ∗ slotAny b c 4 ∗ slotAny b c 5 ∗ slotAny b c 6 ∗ slotAny b c 7) := by
  rw [← bigSep_fin8 fun s => slotAny (F := F) b c s]
  unfold bufAny
  iintro ⟨%f, H⟩
  ihave H' := (Entails.of_eq (slots_split (bufM b) (bufM_whole b) c fullShare f)) $$ H
  have h : (bigSep Finset.univ fun s : Fin 8 => ((slotV (bufM b) s).view.loc (c : Thread nD τ) ↦[(slotV (bufM b) s).view.set]{fullShare} f : sProp 𝕄))
      ⊢ bigSep Finset.univ fun s : Fin 8 => slotAny (F := F) b c s :=
    bigSep_mono fun s _ => slotAny_intro b c s f
  iapply h; iexact H'

/-- The filled slots are the buffer. -/
theorem buf_close : iprop(slotPt kv b c 0 fullShare ∗ slotPt kv b c 1 fullShare ∗ slotPt kv b c 2 fullShare ∗ slotPt kv b c 3 fullShare
    ∗ slotPt kv b c 4 fullShare ∗ slotPt kv b c 5 fullShare ∗ slotPt kv b c 6 fullShare ∗ slotPt kv b c 7 fullShare) ⊢ bufAny b c := by
  rw [← bigSep_fin8 fun s => slotPt kv b c s fullShare]
  unfold bufAny slotPt
  rw [← slots_split (bufM b) (bufM_whole b) c fullShare (gathBuf kv b c)]
  iintro H
  iexists _; iexact H

/-- The slot that a partner's transfer `t` will write is what the partner's barrier payload names. -/
theorem landing_of (t : Fin 7) : slotAny (F := F) b c (dstOf t) ⊢ landing b (peer c (axOf t)) t := by
  show _ ⊢ slotAny (F := F) b (peer (peer c (axOf t)) (axOf t)) (dstOf t)
  rw [peer_peer]

end Shares

section Runs
variable (kv : Fin 2 → Dev nD → FVec F S2x128x8x64 .f32) (K : Dev nD × CI → ℕ) (c : Dev nD) {α : Type} (xs : List Due)

/-- The three sends of a device's own chunk. -/
theorem run_send3 (b : Fin 2) {hA} {k : PUnit → P F α} {Q : α → sProp 𝕄} :
    iprop(records kv K ∗ owing c (.inr (b, 0) :: .inr (b, 1) :: .inr (b, 2) :: xs)
        ∗ (toSend b 0 c ∗ toSend b 1 c ∗ toSend b 2 c) ∗ (landing b c 0 ∗ landing b c 1 ∗ landing b c 2) ∗ slotPt kv b c 0 fullShare)
      ⊢ iprop((owing c xs ∗ (sent b 0 c ∗ sent b 1 c ∗ sent b 2 c) ∗ slotPt kv b c 0 q0 -∗ run c (k ⟨⟩) Q)
          -∗ run c (send (bufM b) hA (sendA b) (recvA b) c 0 >>= fun _ => send (bufM b) hA (sendA b) (recvA b) c 1 >>= fun _ =>
              send (bufM b) hA (sendA b) (recvA b) c 2 >>= k) Q) := by
  iintro ⟨#HR, HO, ⟨T0, T1, T2⟩, ⟨L0, L1, L2⟩, Hs⟩ Hk
  ihave Hs' := (slot0_split kv b c) $$ Hs
  icases Hs' with ⟨S0, S1, S2, S3⟩
  iapply (run_send kv K c (.inr (b, 1) :: .inr (b, 2) :: xs) b 0) $$ [HO T0 S0 L0]
  · isplitr; · iexact HR
    isplitl [HO]; · iexact HO
    isplitl [T0]; · iexact T0
    isplitl [S0]; · iexact S0
    iexact L0
  iintro ⟨HO, D0⟩
  iapply (run_send kv K c (.inr (b, 2) :: xs) b 1) $$ [HO T1 S1 L1]
  · isplitr; · iexact HR
    isplitl [HO]; · iexact HO
    isplitl [T1]; · iexact T1
    isplitl [S1]; · iexact S1
    iexact L1
  iintro ⟨HO, D1⟩
  iapply (run_send kv K c xs b 2) $$ [HO T2 S2 L2]
  · isplitr; · iexact HR
    isplitl [HO]; · iexact HO
    isplitl [T2]; · iexact T2
    isplitl [S2]; · iexact S2
    iexact L2
  iintro ⟨HO, D2⟩
  iapply Hk
  isplitl [HO]; · iexact HO
  isplitl [D0 D1 D2]
  · isplitl [D0]; · iexact D0
    isplitl [D1] <;> iassumption
  iexact S3

/-- A landing awaited and forwarded: transfer `u` reads what transfer `t` wrote. -/
theorem run_relay (b : Fin 2) (t u : Fin 7) {hA} {k : PUnit → P F α} {Q : α → sProp 𝕄}
    (htu : srcOf u = dstOf t) (hu : shareOf u = fullShare.left) (h : ∀ x ∈ Sum.inr (b, u) :: xs, stageOf t < dueLev x) :
    iprop(records kv K ∗ levAts L lv ∗ owing c (.inr (b, u) :: xs) ∗ toRecv b t c ∗ toSend b u c ∗ landing b c u)
      ⊢ iprop((owing c xs ∗ semVal (recvCell b t c) 0 ∗ sent b u c ∗ slotPt kv b c (dstOf t) q1 -∗ run c (k ⟨⟩) Q)
          -∗ run c (waitRecv (bufM b) hA (recvA b) t >>= fun _ => send (bufM b) hA (sendA b) (recvA b) c u >>= k) Q) := by
  iintro ⟨#HR, #Hlev, HO, V, T, Ld⟩ Hk
  iapply (run_waitRecv kv K c _ b t h) $$ [HO V]
  · isplitr; · iexact HR
    isplitr; · iexact Hlev
    isplitl [V] <;> iassumption
  iintro ⟨HO, Hz, Hs⟩
  ihave Hs' := (slot_halve kv b c (dstOf t) fullShare) $$ Hs
  icases Hs' with ⟨S1, S2⟩
  iapply (run_send kv K c xs b u) $$ [HO T S1 Ld]
  · isplitr; · iexact HR
    isplitl [HO]; · iexact HO
    isplitl [T]; · iexact T
    isplitl [S1]; · rw [htu, hu]; iexact S1
    iexact Ld
  iintro ⟨HO, D⟩
  iapply Hk
  isplitl [HO]; · iexact HO
  isplitl [Hz]; · iexact Hz
  isplitl [D] <;> iassumption

/-- A chunk loaded: its keys and its values. -/
theorem run_loadPair (s : Fin 8) (q : PosShare TreeShare) {k : Vec F S1x2x8x128x64 .bf16 → Vec F S1x2x8x128x64 .bf16 → P F α} {Q : α → sProp 𝕄} :
    iprop(slotPt kv 0 c s q ∗ slotPt kv 1 c s q)
      ⊢ iprop((slotPt kv 0 c s q ∗ slotPt kv 1 c s q -∗ run c (k (chunkV (kv 0 (holder c s))) (chunkV (kv 1 (holder c s)))) Q)
          -∗ run c (loadSlot (bufM 0) s >>= fun x => loadSlot (bufM 1) s >>= fun y => k x y) Q) := by
  iintro ⟨H0, H1⟩ Hk
  iapply (run_loadSlot kv c 0 s q) $$ H0; iintro H0
  iapply (run_loadSlot kv c 1 s q) $$ H1; iintro H1
  iapply Hk
  isplitl [H0] <;> iassumption

/-- A chunk's two landings awaited. -/
theorem run_waitPair (t : Fin 7) {hA hB} {k : PUnit → P F α} {Q : α → sProp 𝕄} :
    iprop(records kv K ∗ levAts L lv ∗ owing c [] ∗ toRecv 0 t c ∗ toRecv 1 t c)
      ⊢ iprop((owing c [] ∗ (semVal (recvCell 0 t c) 0 ∗ semVal (recvCell 1 t c) 0) ∗ slotPt kv 0 c (dstOf t) fullShare ∗ slotPt kv 1 c (dstOf t) fullShare
              -∗ run c (k ⟨⟩) Q)
          -∗ run c (waitRecv (bufM 0) hA (recvA 0) t >>= fun _ => waitRecv (bufM 1) hB (recvA 1) t >>= k) Q) := by
  iintro ⟨#HR, #Hlev, HO, V0, V1⟩ Hk
  iapply (run_waitRecv kv K c [] 0 t (fun _ h => absurd h List.not_mem_nil)) $$ [HO V0]
  · isplitr; · iexact HR
    isplitr; · iexact Hlev
    isplitl [V0] <;> iassumption
  iintro ⟨HO, Z0, S0⟩
  iapply (run_waitRecv kv K c [] 1 t (fun _ h => absurd h List.not_mem_nil)) $$ [HO V1]
  · isplitr; · iexact HR
    isplitr; · iexact Hlev
    isplitl [V1] <;> iassumption
  iintro ⟨HO, Z1, S1⟩
  iapply Hk
  isplitl [HO]; · iexact HO
  isplitl [Z0 Z1]
  · isplitl [Z0] <;> iassumption
  isplitl [S0] <;> iassumption

/-- What the three signals need: the barrier tokens of the partners, and the slots they will write. -/
def announce : sProp 𝕄 :=
  iprop(dutyTok ER (barCell (peer c 0)) 0 (0 : Fin 3) ∗ dutyTok ER (barCell (peer c 1)) 0 (1 : Fin 3) ∗ dutyTok ER (barCell (peer c 2)) 0 (2 : Fin 3))

/-- The three signals, handing the slots other than slot 0 to their writers. -/
theorem run_announce {k : PUnit → P F α} {Q : α → sProp 𝕄} :
    iprop(records kv K ∗ owing c (.inl 0 :: .inl 1 :: .inl 2 :: xs) ∗ announce (F := F) c ∗ bufAny (F := F) 0 c ∗ bufAny (F := F) 1 c)
      ⊢ iprop((owing c xs ∗ slotAny (F := F) 0 c 0 ∗ slotAny (F := F) 1 c 0 -∗ run c (k ⟨⟩) Q)
          -∗ run c (semSignalWord (peer c 0) barS 1#32 >>= fun _ => semSignalWord (peer c 1) barS 1#32 >>= fun _ =>
              semSignalWord (peer c 2) barS 1#32 >>= k) Q) := by
  unfold announce
  iintro ⟨#HR, HO, ⟨T0, T1, T2⟩, Hb0, Hb1⟩ Hk
  ihave H0 := (buf_open (F := F) 0 c) $$ Hb0
  icases H0 with ⟨A0, A1, A2, A3, A4, A5, A6, A7⟩
  ihave H1 := (buf_open (F := F) 1 c) $$ Hb1
  icases H1 with ⟨B0, B1, B2, B3, B4, B5, B6, B7⟩
  iapply (run_signal kv K c (.inl 1 :: .inl 2 :: xs) 0) $$ [HO T0 A1 A4 A7 B1 B4 B7]
  · isplitr; · iexact HR
    isplitl [HO]; · iexact HO
    isplitl [T0]; · iexact T0
    unfold barPay
    isplitl [A1]; · iapply (landing_of (F := F) 0 c 0); iexact A1
    isplitl [A4]; · iapply (landing_of (F := F) 0 c 3); iexact A4
    isplitl [A7]; · iapply (landing_of (F := F) 0 c 6); iexact A7
    isplitl [B1]; · iapply (landing_of (F := F) 1 c 0); iexact B1
    isplitl [B4]; · iapply (landing_of (F := F) 1 c 3); iexact B4
    iapply (landing_of (F := F) 1 c 6); iexact B7
  iintro HO
  iapply (run_signal kv K c (.inl 2 :: xs) 1) $$ [HO T1 A2 A5 B2 B5]
  · isplitr; · iexact HR
    isplitl [HO]; · iexact HO
    isplitl [T1]; · iexact T1
    unfold barPay
    isplitl [A2]; · iapply (landing_of (F := F) 0 c 1); iexact A2
    isplitl [A5]; · iapply (landing_of (F := F) 0 c 4); iexact A5
    isplitl [B2]; · iapply (landing_of (F := F) 1 c 1); iexact B2
    iapply (landing_of (F := F) 1 c 4); iexact B5
  iintro HO
  iapply (run_signal kv K c xs 2) $$ [HO T2 A3 A6 B3 B6]
  · isplitr; · iexact HR
    isplitl [HO]; · iexact HO
    isplitl [T2]; · iexact T2
    unfold barPay
    isplitl [A3]; · iapply (landing_of (F := F) 0 c 2); iexact A3
    isplitl [A6]; · iapply (landing_of (F := F) 0 c 5); iexact A6
    isplitl [B3]; · iapply (landing_of (F := F) 1 c 2); iexact B3
    iapply (landing_of (F := F) 1 c 5); iexact B6
  iintro HO
  iapply Hk
  isplitl [HO]; · iexact HO
  isplitl [A0] <;> iassumption

end Runs

end Cert.AttKernelIdeal

end
-- ==== Proof.KernelIdeal.Walk.lean ====
/-
# The body, run once at a symbolic device

From a device's tokens, its two gather buffers and its staged inputs, to the staged result, the buffers again and every
counter at zero.
-/
module

public import proofs.«01_k».proof.Proof.KernelIdeal.Stages

@[expose] public section

set_option maxRecDepth 16384

noncomputable section

namespace Cert.AttKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A buffer of device `c`, whole, holding `X`. -/
abbrev held (c : Dev nD) (b : Ref sig .tc) (X : b.ty.Contents (Elt F)) : sProp 𝕄 :=
  ((c : Thread nD τ).loc b) ↦{fullShare} (X : Buf (Elt F) ((c : Thread nD τ).loc b))

section Whole
variable (c : Dev nD) {α : Type}

theorem zero3 : (![0, 0, 0] : Fin 3 → Nat) = fun _ => 0 := funext fun a => by fin_cases a <;> rfl
theorem zero2 : (![0, 0] : Fin 2 → Nat) = fun _ => 0 := funext fun a => by fin_cases a <;> rfl
theorem zero4 : (![0, 0, 0, 0] : Fin 4 → Nat) = fun _ => 0 := funext fun a => by fin_cases a <;> rfl

/-- A load that reads `Y` off the buffer's contents. -/
theorem run_read {cs : CoreSpace} {s : Shape} {e : EltTy} {m : Memref sig .tc cs s e} {r : LoadRect s} {hl : m.view.LoadsAt r}
    {X : Buf (Elt F) (m.view.loc (c : Thread nD τ))} {Y : r.shape.Idx → Elt F e} (hr : m.view.readAt (Elt F) r X = Y)
    {k : (r.shape.Idx → Elt F e) → P F α} {Q : α → sProp 𝕄} :
    (m.view.loc (c : Thread nD τ) ↦{fullShare} X)
      ⊢ iprop(((m.view.loc (c : Thread nD τ) ↦{fullShare} X) -∗ run c (k Y) Q) -∗ run c (Prog.lift (.load m r hl) >>= k) Q) := by
  subst hr
  exact wp_load 𝒱₀ (c : Thread nD τ) none Set.univ (m := m) (r := r) (Finset.subset_univ _)

/-- The result stored over whatever the staging buffer held. -/
theorem run_out (X Y : FVec F S2x128x512 .f32) {k : PUnit → P F α} {Q : α → sProp 𝕄} :
    held c cc0_stg5_0 X ⊢ iprop((held c cc0_stg5_0 Y -∗ run c (k ⟨⟩) Q) -∗ run c (storeOut (Memref.whole cc0_stg5_0) Y >>= k) Q) := by
  have e : ((Memref.whole cc0_stg5_0 : Memref sig .tc .vmem S2x128x512 .f32).access (Rect.unit (s := S2x128x512) ![0, 0, 0] S2x128x512.size inb_S2x128x512_S2x128x512_0_0_0) : View sig .tc _ _ _).write
      (Elt F) X Y Finset.univ = Y := Memref.write_access_unit_zero_univ (Elt F) cc0_stg5_0 zero3 _ X Y
  have h := wp_store (Q := Q) (k := k) (defs := defs₀ (F := F)) (Γ := .empty) 𝒱₀ (c : Thread nD τ) none Set.univ
    (m := (Memref.whole cc0_stg5_0 : Memref sig .tc .vmem S2x128x512 .f32))
    (r := Rect.unit (s := S2x128x512) ![0, 0, 0] S2x128x512.size inb_S2x128x512_S2x128x512_0_0_0) (w := Y) (Mk := Finset.univ) (f := X)
    (hx := View.stores_vmem_bits_univ h_S2x128x512 rfl) (hm := .inl rfl) (Finset.subset_univ _)
  rw [e] at h
  exact h

end Whole

/-! ## Bundles -/

/-- One conjunct per transfer. -/
def seven (Φ : Fin 7 → sProp 𝕄) : sProp 𝕄 := iprop(Φ 0 ∗ Φ 1 ∗ Φ 2 ∗ Φ 3 ∗ Φ 4 ∗ Φ 5 ∗ Φ 6)

/-- What device `c`'s body starts from, its staged buffers apart. -/
def begins (kv : Fin 2 → Dev nD → FVec F S2x128x8x64 .f32) (K : Dev nD × CI → ℕ) (c : Dev nD) : sProp 𝕄 :=
  iprop((records kv K ∗ levAts L lv) ∗ announce (F := F) c ∗ (cred (tallyAt (barCell c) () 3) ∗ atPos ER (barCell c) 0 ∅ 0)
    ∗ (seven (fun t => toSend (F := F) 0 t c) ∗ seven (fun t => toSend (F := F) 1 t c))
    ∗ (seven (fun t => toRecv (F := F) 0 t c) ∗ seven (fun t => toRecv (F := F) 1 t c)))

/-- What it ends with: every counter of its own at zero. -/
def zeros (c : Dev nD) : sProp 𝕄 :=
  iprop(semVal (barCell c) 0
    ∗ (seven (fun t => semVal (sendCell 0 t c) 0) ∗ seven (fun t => semVal (recvCell 0 t c) 0))
    ∗ (seven (fun t => semVal (sendCell 1 t c) 0) ∗ seven (fun t => semVal (recvCell 1 t c) 0)))

section Body
variable (kv : Fin 2 → Dev nD → FVec F S2x128x8x64 .f32) (K : Dev nD × CI → ℕ) (c : Dev nD)
  (X : FVec F S2x128x512 .f32) (WQ WO : FVec F S512x512 .f32)

/-- The result of device `c`: its activations against the chunks its slots hold. -/
def result : FVec F S2x128x512 .f32 :=
  blockOut X WQ WO (fun s => chunkV (kv 0 (holder c s))) (fun s => chunkV (kv 1 (holder c s)))

/-- Once the last send has been read, the shares make the two buffers again. -/
theorem gather_up :
    iprop(backL kv c [0, 1, 2, 3, 4, 5, 6]
        ∗ (slotPt kv 0 c 0 q0 ∗ slotPt kv 1 c 0 q0) ∗ (slotPt kv 0 c 1 q1 ∗ slotPt kv 1 c 1 q1) ∗ (slotPt kv 0 c 2 q1 ∗ slotPt kv 1 c 2 q1)
        ∗ (slotPt kv 0 c 3 q1 ∗ slotPt kv 1 c 3 q1) ∗ (slotPt kv 0 c 4 fullShare ∗ slotPt kv 1 c 4 fullShare) ∗ (slotPt kv 0 c 5 q1 ∗ slotPt kv 1 c 5 q1)
        ∗ (slotPt kv 0 c 6 fullShare ∗ slotPt kv 1 c 6 fullShare) ∗ (slotPt kv 0 c 7 fullShare ∗ slotPt kv 1 c 7 fullShare))
      ⊢ iprop((bufAny (F := F) 0 c ∗ bufAny (F := F) 1 c) ∗ seven (fun t => semVal (sendCell 0 t c) 0) ∗ seven (fun t => semVal (sendCell 1 t c) 0)) := by
  unfold backL backL backL backL backL backL backL backL seven
  iintro ⟨⟨⟨Z0, A0⟩, ⟨Y0, B0⟩, ⟨Z1, A1⟩, ⟨Y1, B1⟩, ⟨Z2, A2⟩, ⟨Y2, B2⟩, ⟨Z3, A3⟩, ⟨Y3, B3⟩, ⟨Z4, A4⟩, ⟨Y4, B4⟩, ⟨Z5, A5⟩, ⟨Y5, B5⟩, ⟨Z6, A6⟩, ⟨Y6, B6⟩, -⟩,
    ⟨C0, D0⟩, ⟨C1, D1⟩, ⟨C2, D2⟩, ⟨C3, D3⟩, ⟨C4, D4⟩, ⟨C5, D5⟩, ⟨C6, D6⟩, ⟨C7, D7⟩⟩
  isplitl [A0 A1 A2 A3 A4 A5 A6 C0 C1 C2 C3 C4 C5 C6 C7 B0 B1 B2 B3 B4 B5 B6 D0 D1 D2 D3 D4 D5 D6 D7]
  · isplitl [A0 A1 A2 A3 A4 A5 A6 C0 C1 C2 C3 C4 C5 C6 C7]
    · iapply (buf_close kv 0 c)
      isplitl [A0 A1 A2 C0]
      · iapply (slot0_join kv 0 c)
        isplitl [A0]; · iexact A0
        isplitl [A1]; · iexact A1
        isplitl [A2]; · iexact A2
        iexact C0
      isplitl [A5 C1]
      · iapply (slot_join kv 0 c 1 fullShare); isplitl [A5]; · iexact A5
        iexact C1
      isplitl [A3 C2]
      · iapply (slot_join kv 0 c 2 fullShare); isplitl [A3]; · iexact A3
        iexact C2
      isplitl [A4 C3]
      · iapply (slot_join kv 0 c 3 fullShare); isplitl [A4]; · iexact A4
        iexact C3
      isplitl [C4]; · iexact C4
      isplitl [A6 C5]
      · iapply (slot_join kv 0 c 5 fullShare); isplitl [A6]; · iexact A6
        iexact C5
      isplitl [C6] <;> iassumption
    · iapply (buf_close kv 1 c)
      isplitl [B0 B1 B2 D0]
      · iapply (slot0_join kv 1 c)
        isplitl [B0]; · iexact B0
        isplitl [B1]; · iexact B1
        isplitl [B2]; · iexact B2
        iexact D0
      isplitl [B5 D1]
      · iapply (slot_join kv 1 c 1 fullShare); isplitl [B5]; · iexact B5
        iexact D1
      isplitl [B3 D2]
      · iapply (slot_join kv 1 c 2 fullShare); isplitl [B3]; · iexact B3
        iexact D2
      isplitl [B4 D3]
      · iapply (slot_join kv 1 c 3 fullShare); isplitl [B4]; · iexact B4
        iexact D3
      isplitl [D4]; · iexact D4
      isplitl [B6 D5]
      · iapply (slot_join kv 1 c 5 fullShare); isplitl [B6]; · iexact B6
        iexact D5
      isplitl [D6] <;> iassumption
  isplitl [Z0 Z1 Z2 Z3 Z4 Z5 Z6]
  · isplitl [Z0]; · iexact Z0
    isplitl [Z1]; · iexact Z1
    isplitl [Z2]; · iexact Z2
    isplitl [Z3]; · iexact Z3
    isplitl [Z4]; · iexact Z4
    isplitl [Z5] <;> iassumption
  isplitl [Y0]; · iexact Y0
  isplitl [Y1]; · iexact Y1
  isplitl [Y2]; · iexact Y2
  isplitl [Y3]; · iexact Y3
  isplitl [Y4]; · iexact Y4
  isplitl [Y5] <;> iassumption

theorem result_eq : blockOut X WQ WO
      ![chunkV (kv 0 (holder c 0)), chunkV (kv 0 (holder c 1)), chunkV (kv 0 (holder c 2)), chunkV (kv 0 (holder c 3)),
        chunkV (kv 0 (holder c 4)), chunkV (kv 0 (holder c 5)), chunkV (kv 0 (holder c 6)), chunkV (kv 0 (holder c 7))]
      ![chunkV (kv 1 (holder c 0)), chunkV (kv 1 (holder c 1)), chunkV (kv 1 (holder c 2)), chunkV (kv 1 (holder c 3)),
        chunkV (kv 1 (holder c 4)), chunkV (kv 1 (holder c 5)), chunkV (kv 1 (holder c 6)), chunkV (kv 1 (holder c 7))]
    = result kv c X WQ WO := by
  unfold result
  congr 1 <;> (funext s; fin_cases s <;> rfl)

/-- The kernel function at its staged operands. -/
theorem walk (h0 h1 h2 h3 h4 h5 h6 h7) (X5 : FVec F S2x128x512 .f32) (Q : PUnit → sProp 𝕄) :
    iprop(begins kv K c ∗ owing c allDue ∗ (bufAny (F := F) 0 c ∗ bufAny (F := F) 1 c)
        ∗ held c cc0_stg0_0 X ∗ held c cc0_stg1_0 WQ ∗ held c cc0_stg2_0 WO ∗ held c cc0_stg3_0 (kv 0 c) ∗ held c cc0_stg4_0 (kv 1 c) ∗ held c cc0_stg5_0 X5)
      ⊢ iprop((zeros (F := F) c ∗ owing c [] ∗ (bufAny (F := F) 0 c ∗ bufAny (F := F) 1 c)
            ∗ held c cc0_stg0_0 X ∗ held c cc0_stg1_0 WQ ∗ held c cc0_stg2_0 WO ∗ held c cc0_stg3_0 (kv 0 c) ∗ held c cc0_stg4_0 (kv 1 c)
            ∗ held c cc0_stg5_0 (result kv c X WQ WO) -∗ Q ⟨⟩)
          -∗ run c (cc0_body (Memref.whole cc0_stg0_0) h0 (Memref.whole cc0_stg1_0) h1 (Memref.whole cc0_stg2_0) h2 (Memref.whole cc0_stg3_0) h3
              (Memref.whole cc0_stg4_0) h4 (Memref.whole cc0_stg5_0) h5 (Memref.whole cc0_scratch0) h6 (Memref.whole cc0_scratch1) h7
              cc0_scratch2 cc0_scratch3 cc0_scratch4 cc0_scratch5) Q) := by
  rw [cc0_body_eq]
  show _ ⊢ iprop(_ -∗ run c (body (Memref.whole cc0_stg0_0) (Memref.whole cc0_stg1_0) (Memref.whole cc0_stg2_0) (Memref.whole cc0_stg3_0)
    (Memref.whole cc0_stg4_0) (Memref.whole cc0_stg5_0) (bufM 0) h6 (bufM 1) h7 (sendA 0) (recvA 0) (sendA 1) (recvA 1)) Q)
  unfold body begins seven
  iintro ⟨⟨⟨#HR, #Hlev⟩, Han, ⟨HcB, HaB⟩, ⟨⟨T0, T1, T2, T3, T4, T5, T6⟩, ⟨U0, U1, U2, U3, U4, U5, U6⟩⟩,
      ⟨⟨V0, V1, V2, V3, V4, V5, V6⟩, ⟨W0, W1, W2, W3, W4, W5, W6⟩⟩⟩, HO, ⟨Hb0, Hb1⟩, HX, HQ, HW, HK, HV, H5⟩ Hk
  iapply run_deviceId
  -- the announcements
  iapply (run_announce kv K c (allDue.drop 3)) $$ [HO Han Hb0 Hb1]
  · isplitr; · iexact HR
    isplitl [HO]; · iexact HO
    isplitl [Han]; · iexact Han
    isplitl [Hb0] <;> iassumption
  iintro ⟨HO, HA, HB⟩
  iapply (run_read c (Memref.readAt_unit_zero (Elt F) cc0_stg3_0 zero4 _ (kv 0 c))) $$ HK; iintro HK
  iapply (run_read c (Memref.readAt_unit_zero (Elt F) cc0_stg4_0 zero4 _ (kv 1 c))) $$ HV; iintro HV
  unfold slotAny
  icases HA with ⟨%fA, HA⟩
  icases HB with ⟨%fB, HB⟩
  iapply (run_gather kv c 0 _ fA) $$ HA; iintro HA
  -- the partners' announcements, and the slots they hand over
  iapply (run_barWait kv K c (allDue.drop 3) (by decide)) $$ [HcB HaB HO]
  · isplitr; · iexact HR
    isplitr; · iexact Hlev
    isplitl [HcB]; · iexact HcB
    isplitl [HaB] <;> iassumption
  unfold barPay
  iintro ⟨HO, ZB, ⟨L0, L3, L6, M0, M3, M6⟩, ⟨L1, L4, M1, M4⟩, ⟨L2, L5, M2, M5⟩⟩
  -- stage one
  iapply (run_send3 kv K c (allDue.drop 6) 0 (hA := h6)) $$ [HO T0 T1 T2 L0 L1 L2 HA]
  · isplitr; · iexact HR
    isplitl [HO]; · iexact HO
    isplitl [T0 T1 T2]
    · isplitl [T0]; · iexact T0
      isplitl [T1] <;> iassumption
    isplitl [L0 L1 L2]
    · isplitl [L0]; · iexact L0
      isplitl [L1] <;> iassumption
    iexact HA
  iintro ⟨HO, ⟨D0, D1, D2⟩, A0⟩
  iapply (run_gather kv c 1 _ fB) $$ HB; iintro HB
  iapply (run_send3 kv K c (allDue.drop 9) 1 (hA := h7)) $$ [HO U0 U1 U2 M0 M1 M2 HB]
  · isplitr; · iexact HR
    isplitl [HO]; · iexact HO
    isplitl [U0 U1 U2]
    · isplitl [U0]; · iexact U0
      isplitl [U1] <;> iassumption
    isplitl [M0 M1 M2]
    · isplitl [M0]; · iexact M0
      isplitl [M1] <;> iassumption
    iexact HB
  iintro ⟨HO, ⟨E0, E1, E2⟩, B0⟩
  -- the local operands
  iapply (run_read c (Memref.readAt_unit_zero (Elt F) cc0_stg0_0 zero3 _ X)) $$ HX; iintro HX
  iapply (run_read c (Memref.readAt_unit_zero (Elt F) cc0_stg1_0 zero2 _ WQ)) $$ HQ; iintro HQ
  iapply (run_read c (Memref.readAt_unit_zero (Elt F) cc0_stg2_0 zero2 _ WO)) $$ HW; iintro HW
  iapply (run_loadPair kv c 0 q0) $$ [A0 B0]
  · isplitl [A0] <;> iassumption
  iintro P0
  -- stage two
  iapply (run_relay kv K c (allDue.drop 10) 0 1 3 (hA := h6) rfl rfl (by decide)) $$ [HO V1 T3 L3]
  · isplitr; · iexact HR
    isplitr; · iexact Hlev
    isplitl [HO]; · iexact HO
    isplitl [V1]; · iexact V1
    isplitl [T3] <;> iassumption
  iintro ⟨HO, Z1, D3, A2⟩
  iapply (run_relay kv K c (allDue.drop 11) 0 2 4 (hA := h6) rfl rfl (by decide)) $$ [HO V2 T4 L4]
  · isplitr; · iexact HR
    isplitr; · iexact Hlev
    isplitl [HO]; · iexact HO
    isplitl [V2]; · iexact V2
    isplitl [T4] <;> iassumption
  iintro ⟨HO, Z2, D4, A3⟩
  iapply (run_relay kv K c (allDue.drop 12) 0 0 5 (hA := h6) rfl rfl (by decide)) $$ [HO V0 T5 L5]
  · isplitr; · iexact HR
    isplitr; · iexact Hlev
    isplitl [HO]; · iexact HO
    isplitl [V0]; · iexact V0
    isplitl [T5] <;> iassumption
  iintro ⟨HO, Z0, D5, A1⟩
  iapply (run_relay kv K c (allDue.drop 13) 1 1 3 (hA := h7) rfl rfl (by decide)) $$ [HO W1 U3 M3]
  · isplitr; · iexact HR
    isplitr; · iexact Hlev
    isplitl [HO]; · iexact HO
    isplitl [W1]; · iexact W1
    isplitl [U3] <;> iassumption
  iintro ⟨HO, Y1, E3, B2⟩
  iapply (run_relay kv K c (allDue.drop 14) 1 2 4 (hA := h7) rfl rfl (by decide)) $$ [HO W2 U4 M4]
  · isplitr; · iexact HR
    isplitr; · iexact Hlev
    isplitl [HO]; · iexact HO
    isplitl [W2]; · iexact W2
    isplitl [U4] <;> iassumption
  iintro ⟨HO, Y2, E4, B3⟩
  iapply (run_relay kv K c (allDue.drop 15) 1 0 5 (hA := h7) rfl rfl (by decide)) $$ [HO W0 U5 M5]
  · isplitr; · iexact HR
    isplitr; · iexact Hlev
    isplitl [HO]; · iexact HO
    isplitl [W0]; · iexact W0
    isplitl [U5] <;> iassumption
  iintro ⟨HO, Y0, E5, B1⟩
  iapply (run_loadPair kv c 1 q1) $$ [A1 B1]
  · isplitl [A1]; · iexact A1
    iexact B1
  iintro P1
  iapply (run_loadPair kv c 2 q1) $$ [A2 B2]
  · isplitl [A2]; · iexact A2
    iexact B2
  iintro P2
  iapply (run_loadPair kv c 3 q1) $$ [A3 B3]
  · isplitl [A3]; · iexact A3
    iexact B3
  iintro P3
  -- stage three
  iapply (run_relay kv K c (allDue.drop 16) 0 4 6 (hA := h6) rfl rfl (by decide)) $$ [HO V4 T6 L6]
  · isplitr; · iexact HR
    isplitr; · iexact Hlev
    isplitl [HO]; · iexact HO
    isplitl [V4]; · iexact V4
    isplitl [T6] <;> iassumption
  iintro ⟨HO, Z4, D6, A5⟩
  iapply (run_relay kv K c (allDue.drop 17) 1 4 6 (hA := h7) rfl rfl (by decide)) $$ [HO W4 U6 M6]
  · isplitr; · iexact HR
    isplitr; · iexact Hlev
    isplitl [HO]; · iexact HO
    isplitl [W4]; · iexact W4
    isplitl [U6] <;> iassumption
  iintro ⟨HO, Y4, E6, B5⟩
  iapply (run_loadPair kv c 5 q1) $$ [A5 B5]
  · isplitl [A5]; · iexact A5
    iexact B5
  iintro P5
  iapply (run_waitPair kv K c 3 (hA := h6) (hB := h7)) $$ [HO V3 W3]
  · isplitr; · iexact HR
    isplitr; · iexact Hlev
    isplitl [HO]; · iexact HO
    isplitl [V3] <;> iassumption
  iintro ⟨HO, ⟨Z3, Y3⟩, A4, B4⟩
  iapply (run_loadPair kv c 4 fullShare) $$ [A4 B4]
  · isplitl [A4]; · iexact A4
    iexact B4
  iintro P4
  iapply (run_waitPair kv K c 5 (hA := h6) (hB := h7)) $$ [HO V5 W5]
  · isplitr; · iexact HR
    isplitr; · iexact Hlev
    isplitl [HO]; · iexact HO
    isplitl [V5] <;> iassumption
  iintro ⟨HO, ⟨Z5, Y5⟩, A6, B6⟩
  iapply (run_loadPair kv c 6 fullShare) $$ [A6 B6]
  · isplitl [A6]; · iexact A6
    iexact B6
  iintro P6
  iapply (run_waitPair kv K c 6 (hA := h6) (hB := h7)) $$ [HO V6 W6]
  · isplitr; · iexact HR
    isplitr; · iexact Hlev
    isplitl [HO]; · iexact HO
    isplitl [V6] <;> iassumption
  iintro ⟨HO, ⟨Z6, Y6⟩, A7, B7⟩
  iapply (run_loadPair kv c 7 fullShare) $$ [A7 B7]
  · isplitl [A7]; · iexact A7
    iexact B7
  iintro P7
  -- the result
  iapply (run_read c (Memref.readAt_unit_zero (Elt F) cc0_stg5_0 zero3 _ X5)) $$ H5; iintro H5
  iapply (run_out c X5 _) $$ H5; iintro H5
  iapply (run_waitSends kv K c (hA := h6) (hB := h7) [0, 1, 2, 3, 4, 5, 6]) $$ [HO D0 D1 D2 D3 D4 D5 D6 E0 E1 E2 E3 E4 E5 E6]
  · isplitr; · iexact HR
    isplitr; · iexact Hlev
    isplitl [D0 D1 D2 D3 D4 D5 D6 E0 E1 E2 E3 E4 E5 E6]
    · unfold sentL sentL sentL sentL sentL sentL sentL sentL
      isplitl [D0]; · iexact D0
      isplitl [E0]; · iexact E0
      isplitl [D1]; · iexact D1
      isplitl [E1]; · iexact E1
      isplitl [D2]; · iexact D2
      isplitl [E2]; · iexact E2
      isplitl [D3]; · iexact D3
      isplitl [E3]; · iexact E3
      isplitl [D4]; · iexact D4
      isplitl [E4]; · iexact E4
      isplitl [D5]; · iexact D5
      isplitl [E5]; · iexact E5
      isplitl [D6]; · iexact D6
      isplitl [E6]; · iexact E6
      iempintro
    iexact HO
  iintro ⟨HO, Hback⟩
  ihave Hup := (gather_up kv c) $$ [Hback P0 P1 P2 P3 P4 P5 P6 P7]
  · isplitl [Hback]; · iexact Hback
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  icases Hup with ⟨Hbufs, S0, S1⟩
  iapply Hk
  unfold zeros
  isplitl [ZB S0 S1 Z0 Z1 Z2 Z3 Z4 Z5 Z6 Y0 Y1 Y2 Y3 Y4 Y5 Y6]
  · isplitl [ZB]; · iexact ZB
    isplitl [S0 Z0 Z1 Z2 Z3 Z4 Z5 Z6]
    · isplitl [S0]; · iexact S0
      unfold seven
      isplitl [Z0]; · iexact Z0
      isplitl [Z1]; · iexact Z1
      isplitl [Z2]; · iexact Z2
      isplitl [Z3]; · iexact Z3
      isplitl [Z4]; · iexact Z4
      isplitl [Z5] <;> iassumption
    · isplitl [S1]; · iexact S1
      unfold seven
      isplitl [Y0]; · iexact Y0
      isplitl [Y1]; · iexact Y1
      isplitl [Y2]; · iexact Y2
      isplitl [Y3]; · iexact Y3
      isplitl [Y4]; · iexact Y4
      isplitl [Y5] <;> iassumption
  isplitl [HO]; · iexact HO
  isplitl [Hbufs]; · iexact Hbufs
  isplitl [HX]; · iexact HX
  isplitl [HQ]; · iexact HQ
  isplitl [HW]; · iexact HW
  isplitl [HK]; · iexact HK
  isplitl [HV]; · iexact HV
  rw [← result_eq]; iexact H5

end Body

end Cert.AttKernelIdeal

end
-- ==== Proof.KernelIdeal.Ghost.lean ====
/-
# Setting the exchange up

The counters of all devices, at zero, become the cells' invariants; each token is dealt to the device that pays with it;
and what the devices owe at the start is the credit each of them waits with.
-/
module

public import proofs.«01_k».proof.Proof.KernelIdeal.Walk

@[expose] public section

set_option maxRecDepth 16384

noncomputable section

namespace Cert.AttKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over the cells, one by one -/

theorem seven_eq (Φ : Fin 7 → sProp 𝕄) : bigSep Finset.univ Φ = seven Φ :=
  bigSep_univ_eq_bigSepL [0, 1, 2, 3, 4, 5, 6] (by decide) (by decide) Φ
theorem two_eq (Φ : Fin 2 → sProp 𝕄) : bigSep Finset.univ Φ = iprop(Φ 0 ∗ Φ 1) :=
  bigSep_univ_eq_bigSepL [0, 1] (by decide) (by decide) Φ
theorem three_eq (Φ : Fin 3 → sProp 𝕄) : bigSep Finset.univ Φ = iprop(Φ 0 ∗ Φ 1 ∗ Φ 2) :=
  bigSep_univ_eq_bigSepL [0, 1, 2] (by decide) (by decide) Φ

theorem seven_sep (Φ Ψ : Fin 7 → sProp 𝕄) : seven (fun t => iprop(Φ t ∗ Ψ t)) = iprop(seven Φ ∗ seven Ψ) := by
  rw [← seven_eq, ← seven_eq, ← seven_eq, bigSep_sep']

theorem xfer_eq (Φ : Xfer → sProp 𝕄) : bigSep Finset.univ Φ
    = iprop((seven (fun t => Φ (0, 0, t)) ∗ seven (fun t => Φ (0, 1, t))) ∗ (seven (fun t => Φ (1, 0, t)) ∗ seven (fun t => Φ (1, 1, t)))) := by
  rw [bigSep_univ_prod, two_eq, bigSep_univ_prod, bigSep_univ_prod, two_eq, two_eq, seven_eq, seven_eq, seven_eq, seven_eq]

theorem ci_eq (Φ : CI → sProp 𝕄) : bigSep Finset.univ Φ = iprop(Φ (.inl ()) ∗ bigSep Finset.univ fun x => Φ (.inr x)) := by
  rw [BI.bigSep_univ_sum]
  congr 1
  exact bigSep_univ_eq_bigSepL [()] (by decide) (by decide) _

/-! ## The cells are distinct, and so are their tokens -/

theorem decode_osem (x : Xfer) : osem x = .dma (semAt ((![sendA, recvA] : Fin 2 → Fin 2 → DmaSems sig S7) x.2.1 x.1) x.2.2) := rfl

/-- A cell's semaphore, read back. -/
def ciOf : SemLoc sig → Option CI
  | .reg _ => some (.inl ())
  | .dma q => (decode q).map .inr

theorem ciOf_csem (k : CI) : ciOf (csem k) = some k := by
  rcases k with ⟨⟩ | ⟨b, e, t⟩
  · rfl
  · fin_cases e
    · exact congrArg (Option.map (Sum.inr : Xfer → CI)) (decode_send b t)
    · exact congrArg (Option.map (Sum.inr : Xfer → CI)) (decode_recv b t)

theorem csem_injective : Function.Injective csem := fun k k' h => by
  have := congrArg ciOf h
  rw [ciOf_csem, ciOf_csem] at this
  exact Option.some.inj this

theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  subst h1; subst h2; rfl

/-- A token: a barrier's, of one axis, or a transfer end's. -/
abbrev TI := Fin 3 ⊕ Xfer
/-- The cell a token is of, and its duty there. -/
abbrev tokCell : TI → CI
  | .inl _ => .inl ()
  | .inr x => .inr x
abbrev tokDuty : TI → Fin 3
  | .inl d => d
  | .inr _ => 0
abbrev tokOf (p : Dev nD × TI) : GSem nD τ sig × ℕ × Fin 3 := (kcell (p.1, tokCell p.2), 0, tokDuty p.2)

theorem tokOf_injective : Function.Injective tokOf := by
  rintro ⟨c, x⟩ ⟨c', x'⟩ h
  have h1 : (c, tokCell x) = (c', tokCell x') := kcell_injective (congrArg Prod.fst h)
  have h2 : tokDuty x = tokDuty x' := congrArg (fun y : GSem nD τ sig × ℕ × Fin 3 => y.2.2) h
  have h3 : c = c' := congrArg Prod.fst h1
  have h4 : tokCell x = tokCell x' := congrArg Prod.snd h1
  subst h3
  rcases x with d | x <;> rcases x' with d' | x'
  · have : d = d' := h2
    rw [this]
  · cases h4
  · cases h4
  · have : x = x' := Sum.inr.inj h4
    rw [this]

def allCells : Finset (GSem nD τ sig) := Finset.univ.map ⟨kcell, kcell_injective⟩
def allToks : Finset (GSem nD τ sig × ℕ × Fin 3) := Finset.univ.map ⟨tokOf, tokOf_injective⟩

/-- The launch's element: the pipeline's cells, and the exchange's. -/
def u₀ : UU :=
  (initOf (Pipeline.cells cfgs cellOf_inj) (Pipeline.launchToks cfgs cellOf_inj), initOf allCells allToks)

/-! ## Dealing the tokens -/

abbrev tok (p : Dev nD × TI) : sProp 𝕄 := dutyTok ER (tokOf p).1 (tokOf p).2.1 (tokOf p).2.2

/-- The device that pays with a token of device `c`, and the device of whose cell a token that `c` pays with is. -/
abbrev partner : TI → Dev nD → Dev nD
  | .inl d, c => peer c d
  | .inr (_, 0, _), c => c
  | .inr (_, 1, t), c => peer c (axOf t)

theorem partner_partner : ∀ (x : TI) (c : Dev nD), partner x (partner x c) = c
  | .inl d, c => peer_peer c d
  | .inr (_, 0, _), _ => rfl
  | .inr (_, 1, t), c => peer_peer c (axOf t)

def deal : Dev nD × TI ≃ Dev nD × TI where
  toFun p := (partner p.2 p.1, p.2)
  invFun p := (partner p.2 p.1, p.2)
  left_inv p := by dsimp only; rw [partner_partner]
  right_inv p := by dsimp only; rw [partner_partner]

/-- Device `c`'s own cells' tokens; -/
def toks (c : Dev nD) : sProp 𝕄 := bigSep Finset.univ fun x : TI => tok (F := F) (c, x)
/-- the tokens it pays with. -/
def payToks (c : Dev nD) : sProp 𝕄 := bigSep Finset.univ fun x : TI => tok (F := F) (partner x c, x)

theorem toks_around : (bigSep Finset.univ fun c : Dev nD => toks (F := F) c) = bigSep Finset.univ fun c : Dev nD => payToks (F := F) c := by
  unfold toks payToks
  rw [← bigSep_univ_prod (fun p : Dev nD × TI => tok (F := F) p), bigSep_univ_equiv deal, bigSep_univ_prod]
  rfl

theorem payToks_eq (c : Dev nD) : payToks (F := F) c = iprop(announce (F := F) c
    ∗ ((seven (fun t => dutyTok ER (sendCell 0 t c) 0 (0 : Fin 3)) ∗ seven (fun t => dutyTok ER (recvCell 0 t (peer c (axOf t))) 0 (0 : Fin 3)))
      ∗ (seven (fun t => dutyTok ER (sendCell 1 t c) 0 (0 : Fin 3)) ∗ seven (fun t => dutyTok ER (recvCell 1 t (peer c (axOf t))) 0 (0 : Fin 3))))) := by
  unfold payToks
  rw [BI.bigSep_univ_sum, three_eq, xfer_eq]
  rfl

/-! ## The cells opened -/

section Open
variable (kv : Fin 2 → Dev nD → FVec F S2x128x8x64 .f32)

/-- The places of device `c` at its own cells. -/
def places (c : Dev nD) : sProp 𝕄 := bigSep Finset.univ fun k : CI => atPos ER (kcell (c, k)) 0 ∅ 0

/-- What the launch's element deals device `c`. -/
def G (c : Dev nD) : sProp 𝕄 :=
  iprop((bigSep Finset.univ fun k : CI => roundState ER (sched kv) (kcell (c, k)) 0)
    ∗ (places (F := F) c ∗ bigSep Finset.univ fun k : CI => reached ER (kcell (c, k)) 0) ∗ toks (F := F) c)

/-- What stays with device `c` once the cells are open. -/
def linear (c : Dev nD) : sProp 𝕄 := iprop(places (F := F) c ∗ payToks (F := F) c)
def G' (c : Dev nD) : sProp 𝕄 := iprop(∃ K, records kv K ∗ linear (F := F) c)

theorem fund_all : BI.own (ER (initOf allCells allToks)) ⊢ (|==> bigSep Finset.univ (G kv) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched kv) allCells allToks) $$ HX with ⟨Hst, Hr, Hat, Htok⟩
  imodintro
  ihave Hst' := (Entails.of_eq (hX fun g => roundState ER (sched kv) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun x : Xfer => semVal (kcell (c, .inr x)) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, ci_eq]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G kv c)
      ⊢ |={Set.univ}=> iprop((bigSep Finset.univ fun k => iprop(∃ κ : ℕ, cellInv ER (sched kv) κ (kcell (c, k))))
          ∗ (places (F := F) c ∗ bigSep Finset.univ fun k : CI => reached ER (kcell (c, k)) 0) ∗ toks (F := F) c) := by
  have halloc : iprop((bigSep Finset.univ fun k : CI => semVal (kcell (c, k)) 0) ∗ bigSep Finset.univ fun k : CI => roundState ER (sched kv) (kcell (c, k)) 0)
      ⊢ (|={Set.univ}=> bigSep Finset.univ fun k => iprop(∃ κ : ℕ, cellInv ER (sched kv) κ (kcell (c, k))) : sProp 𝕄) := by
    rw [← bigSep_sep']
    exact (bigSep_mono fun k _ => (Rounds.body_intro ER (sched kv) (kcell (c, k))).trans inv_alloc).trans (bigSep_fupd _ _)
  unfold G
  iintro ⟨Hos, Hus, Hst, Hrest⟩
  ihave Hv := (sems0_eq (F := F) c) $$ [Hos Hus]
  · isplitl [Hos] <;> iassumption
  imod halloc $$ [Hv Hst] with Hinv
  · isplitl [Hv] <;> iassumption
  imodintro
  isplitl [Hinv]; · iexact Hinv
  iexact Hrest

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem G'_intro (K : Dev nD × CI → ℕ) (c : Dev nD) : iprop(records kv K ∗ linear (F := F) c) ⊢ G' kv c := by
  unfold G'
  iintro H
  iexists K; iexact H

theorem regroup :
    (bigSep Finset.univ fun c : Dev nD => iprop((bigSep Finset.univ fun k => iprop(∃ κ : ℕ, cellInv ER (sched kv) κ (kcell (c, k))))
          ∗ (places (F := F) c ∗ bigSep Finset.univ fun k : CI => reached ER (kcell (c, k)) 0) ∗ toks (F := F) c) : sProp 𝕄)
      ⊢ bigSep Finset.univ (G' kv) := by
  rw [bigSep_sep', bigSep_sep', bigSep_sep', ← bigSep_univ_prod (fun ck : Dev nD × CI => iprop(∃ κ : ℕ, cellInv ER (sched kv) κ (kcell ck))),
    ← bigSep_univ_prod (fun ck : Dev nD × CI => (reached ER (kcell ck) 0 : sProp 𝕄)), toks_around]
  iintro ⟨HI, ⟨Hat, #HR⟩, Htok⟩
  ihave HK := (BI.bigSep_exists_pi Finset.univ (fun (ck : Dev nD × CI) (κ : ℕ) => (cellInv ER (sched kv) κ (kcell ck) : sProp 𝕄))) $$ HI
  icases HK with ⟨%K, #HI⟩
  iapply (with_records (R := records kv K) fun c => G'_intro kv K c)
  isplitr
  · unfold records; isplitl; · iexact HI
    iexact HR
  · unfold linear
    rw [bigSep_sep']
    isplitl [Hat]; · iexact Hat
    iexact Htok

/-- The set-up, of all devices at once. -/
theorem glob : (bigSep Finset.univ fun c => iprop(Pipeline.ownSems0 (Ix := Unit) (Name := ℕ) (U := UU) (Lvl := ℕ) (Val := Elt F) (τ := τ) osem c ∗ unscopedSems0 c ∗ G kv c) : sProp 𝕄)
    ⊢ |={Set.univ}=> bigSep Finset.univ (G' kv) :=
  ((bigSep_mono fun c _ => core_alloc kv c).trans (bigSep_fupd _ _)).trans (BI.fupd_mono (regroup kv))

end Open

/-! ## The credit the devices start with -/

/-- What all devices owe a cell for one item of their lists. -/
def recip (g : GSem nD τ sig) (x : Due) : ℕ := ∑ d : Dev nD, if g = dueCell d x then dueAmt x else 0

theorem sum_owedL (g : GSem nD τ sig) : ∀ xs : List Due, ∑ d : Dev nD, owedL d xs g () = (xs.map (recip g)).sum
  | [] => Finset.sum_eq_zero fun _ _ => rfl
  | x :: xs => by
    rw [List.map_cons, List.sum_cons, ← sum_owedL g xs, recip, add_comm, ← Finset.sum_add_distrib]
    refine Finset.sum_congr rfl fun d _ => ?_
    rw [show owedL d (x :: xs) g () = owedL d xs g () + tallyAt (dueCell d x) () (dueAmt x) g () from rfl, tallyAt_apply]
    congr 1
    by_cases h : g = dueCell d x
    · rw [if_pos ⟨h, rfl⟩, if_pos h]
    · rw [if_neg (fun h' => h h'.1), if_neg h]

/-- One device owes the item to the cell: its partner. -/
theorem recip_one (g : GSem nD τ sig) (x : Due) (d₀ : Dev nD) (h : ∀ d, g = dueCell d x ↔ d = d₀) : recip g x = dueAmt x := by
  unfold recip
  rw [Finset.sum_congr rfl fun d _ => if_congr (h d) rfl rfl, Finset.sum_ite_eq' Finset.univ d₀ fun _ => dueAmt x, if_pos (Finset.mem_univ _)]
theorem recip_none (g : GSem nD τ sig) (x : Due) (h : ∀ d, g ≠ dueCell d x) : recip g x = 0 :=
  Finset.sum_eq_zero fun d _ => if_neg (h d)

theorem cell_eq_iff {a b : Dev nD} {k k' : CI} : kcell (a, k) = kcell (b, k') ↔ a = b ∧ k = k' :=
  ⟨fun h => by have := kcell_injective h; exact ⟨congrArg Prod.fst this, congrArg Prod.snd this⟩, fun h => by rw [h.1, h.2]⟩

theorem peer_iff {c d : Dev nD} {a : Fin 3} : c = peer d a ↔ d = peer c a :=
  ⟨fun h => by rw [h, peer_peer], fun h => by rw [h, peer_peer]⟩

theorem recip_bar (c : Dev nD) : ∀ x : Due, recip (barCell c) x = match x with | .inl _ => 1 | .inr _ => 0
  | .inl a => recip_one _ _ (peer c a) fun d =>
      (cell_eq_iff (a := c) (b := peer d a) (k := .inl ()) (k' := .inl ())).trans ⟨fun h => peer_iff.mp h.1, fun h => ⟨peer_iff.mpr h, rfl⟩⟩
  | .inr (b, t) => recip_none _ _ fun d h => by
      have := (cell_eq_iff (a := c) (b := peer d (axOf t)) (k := .inl ()) (k' := .inr (b, 1, t))).mp h
      cases this.2

theorem recip_recv (b : Fin 2) (t : Fin 7) (c : Dev nD) : ∀ x : Due, recip (recvCell b t c) x = if x = .inr (b, t) then amt b else 0
  | .inl a => (recip_none _ _ fun d h => by
      have := (cell_eq_iff (a := c) (b := peer d a) (k := .inr (b, 1, t)) (k' := .inl ())).mp h
      cases this.2).trans (if_neg (by intro h; cases h)).symm
  | .inr (b', t') => by
      have hc (d : Dev nD) : recvCell b t c = dueCell d (.inr (b', t')) ↔ c = peer d (axOf t') ∧ (.inr (b, 1, t) : CI) = .inr (b', 1, t') :=
        cell_eq_iff (a := c) (b := peer d (axOf t')) (k := .inr (b, 1, t)) (k' := .inr (b', 1, t'))
      by_cases h : ((.inr (b', t')) : Due) = .inr (b, t)
      · have h1 : b' = b := congrArg Prod.fst (Sum.inr.inj h)
        have h2 : t' = t := congrArg Prod.snd (Sum.inr.inj h)
        subst h1; subst h2
        rw [if_pos rfl]
        exact recip_one _ _ (peer c (axOf t')) fun d => (hc d).trans ⟨fun h => peer_iff.mp h.1, fun h => ⟨peer_iff.mpr h, rfl⟩⟩
      · rw [if_neg h]
        refine recip_none _ _ fun d hd => h ?_
        have h' := Sum.inr.inj ((hc d).mp hd).2
        rw [show b' = b from (congrArg Prod.fst h').symm, show t' = t from (congrArg (fun p : Xfer => p.2.2) h').symm]

theorem sum_once : ∀ (b : Fin 2) (t : Fin 7), (allDue.map fun x : Due => if x = .inr (b, t) then 1 else 0).sum = 1 := by decide

/-- Every transfer is owed once. -/
theorem sum_due (b : Fin 2) (t : Fin 7) (A : ℕ) : (allDue.map fun x : Due => if x = .inr (b, t) then A else 0).sum = A := by
  have h : (fun x : Due => if x = .inr (b, t) then A else 0) = fun x => A * if x = .inr (b, t) then 1 else 0 :=
    funext fun x => by split <;> simp
  rw [h, List.sum_map_mul_left, sum_once, Nat.mul_one]

/-- What a device owes at the start. -/
def O₀ (c : Dev nD) : CellTallies nD τ sig Unit := owedL c allDue

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  unfold O₀
  rw [sum_owedL, funext (recip_bar c)]
  rfl

theorem launch_recv (b : Fin 2) (t : Fin 7) (c : Dev nD) :
    tallyOn (recvCell b t c) (launchCredit (Pipeline.owing O₀) 0 (recvCell b t c)) = (tallyAt (recvCell b t c) () (amt b) : CellTallies nD τ sig Unit) := by
  unfold tallyAt; refine congrArg _ (Finsupp.ext fun u => ?_); cases u
  rw [Pipeline.launchCredit_owing, Finsupp.single_eq_same]
  unfold O₀
  rw [sum_owedL, funext (recip_recv b t c), sum_due]

/-- The credits device `c` waits with. -/
def credits (c : Dev nD) : sProp 𝕄 :=
  iprop(cred (tallyAt (barCell c) () 3)
    ∗ (seven (fun t => cred (tallyAt (recvCell 0 t c) () (amt 0))) ∗ seven (fun t => cred (tallyAt (recvCell 1 t c) () (amt 1)))))

/-- The cells with a credit at the start. -/
abbrev waitSem : Unit ⊕ (Fin 2 × Fin 7) → CI
  | .inl _ => .inl ()
  | .inr (b, t) => .inr (b, 1, t)
theorem waitSem_injective : Function.Injective waitSem := by decide

theorem credits_of (c : Dev nD) : (Pipeline.launchCred O₀ c : sProp 𝕄) ⊢ credits (F := F) c := by
  have e : credits (F := F) c = bigSep (Finset.univ.map ⟨fun y => csem (waitSem y), csem_injective.comp waitSem_injective⟩)
      fun sm : SemLoc sig => cred (tallyOn ((c : Thread nD τ), sm) (launchCredit (Pipeline.owing O₀) 0 ((c : Thread nD τ), sm))) := by
    rw [bigSep_map, BI.bigSep_univ_sum, bigSep_univ_prod, two_eq, seven_eq, seven_eq,
      show bigSep Finset.univ (fun a : Unit => _) = _ from bigSep_univ_eq_bigSepL [()] (by decide) (by decide) _]
    unfold credits
    rw [← launch_bar, funext fun t => congrArg cred (launch_recv 0 t c).symm, funext fun t => congrArg cred (launch_recv 1 t c).symm]
    rfl
  rw [e]
  unfold Pipeline.launchCred
  exact BI.bigSep_subset (Finset.subset_univ _)

/-! ## What the body starts from and ends with -/

section Ends
variable (kv : Fin 2 → Dev nD → FVec F S2x128x8x64 .f32) (K : Dev nD × CI → ℕ) (c : Dev nD)

theorem sends_eq (b : Fin 2) : seven (fun t => toSend (F := F) b t c)
    = iprop(seven (fun t => dutyTok ER (sendCell b t c) 0 (0 : Fin 3)) ∗ seven (fun t => dutyTok ER (recvCell b t (peer c (axOf t))) 0 (0 : Fin 3))
        ∗ seven (fun t => atPos ER (sendCell b t c) 0 ∅ 0)) := by
  unfold toSend; rw [seven_sep, seven_sep]
theorem recvs_eq (b : Fin 2) : seven (fun t => toRecv (F := F) b t c)
    = iprop(seven (fun t => cred (tallyAt (recvCell b t c) () (amt b))) ∗ seven (fun t => atPos ER (recvCell b t c) 0 ∅ 0)) := by
  unfold toRecv; rw [seven_sep]

theorem places_eq : places (F := F) c = iprop(atPos ER (barCell c) 0 ∅ 0
    ∗ ((seven (fun t => atPos ER (sendCell 0 t c) 0 ∅ 0) ∗ seven (fun t => atPos ER (recvCell 0 t c) 0 ∅ 0))
      ∗ (seven (fun t => atPos ER (sendCell 1 t c) 0 ∅ 0) ∗ seven (fun t => atPos ER (recvCell 1 t c) 0 ∅ 0)))) := by
  unfold places
  rw [ci_eq, xfer_eq]
  rfl

theorem begins_intro : iprop(records kv K ∗ linear (F := F) c ∗ credits (F := F) c ∗ levAts L lv) ⊢ begins kv K c := by
  unfold begins linear credits
  rw [sends_eq, sends_eq, recvs_eq, recvs_eq, places_eq, payToks_eq]
  iintro ⟨HR, ⟨⟨PB, ⟨PS0, PR0⟩, ⟨PS1, PR1⟩⟩, Han, ⟨TS0, TR0⟩, ⟨TS1, TR1⟩⟩, ⟨CB, C0, C1⟩, Hlev⟩
  isplitl [HR Hlev]; · isplitl [HR] <;> iassumption
  isplitl [Han]; · iexact Han
  isplitl [CB PB]; · isplitl [CB] <;> iassumption
  isplitl [TS0 TR0 PS0 TS1 TR1 PS1]
  · isplitl [TS0 TR0 PS0]
    · isplitl [TS0]; · iexact TS0
      isplitl [TR0] <;> iassumption
    · isplitl [TS1]; · iexact TS1
      isplitl [TR1] <;> iassumption
  isplitl [C0 PR0]
  · isplitl [C0] <;> iassumption
  · isplitl [C1] <;> iassumption

theorem zeros_eq : zeros (F := F) c
    = iprop(unscopedSems0 c ∗ Pipeline.ownSems0 (Ix := Unit) (Name := ℕ) (U := UU) (Lvl := ℕ) (Val := Elt F) (τ := τ) osem c) := by
  rw [unscopedSems0_eq, ownSems0_eq, xfer_eq]
  rfl

end Ends

end Cert.AttKernelIdeal

end
-- ==== Proof.KernelIdeal.Run.lean ====
/-
# The run

From any memory with every counter at zero, the program of the eight devices ends; then each device's result array holds
what the body computes from the blocks of all devices, the arguments are as they were, and every counter is at zero.
-/
module

public import proofs.«01_k».proof.Proof.KernelIdeal.Ghost
public import Idealize.ShloMosaic.Lib.Pipeline.ValueKit
public import Idealize.ShloMosaic.Lib.Pipeline.CollectiveSegs

@[expose] public section

set_option maxRecDepth 16384

noncomputable section

namespace Cert.AttKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A window holds its whole array -/

theorem blk_x (t : Fin grid0.N) (X : FVec F S2x128x512 .f32) : (win0_0.blk t).view.read (Elt F) X = X :=
  Memref.readAt_unit_zero (Elt F) main_arg0 (funext fun a => Nat.zero_mul _) _ X
theorem blk_wq (t : Fin grid0.N) (X : FVec F S512x512 .f32) : (win0_1.blk t).view.read (Elt F) X = X :=
  Memref.readAt_unit_zero (Elt F) main_arg1 (funext fun a => Nat.zero_mul _) _ X
theorem blk_wo (t : Fin grid0.N) (X : FVec F S512x512 .f32) : (win0_2.blk t).view.read (Elt F) X = X :=
  Memref.readAt_unit_zero (Elt F) main_arg4 (funext fun a => Nat.zero_mul _) _ X
theorem blk_k (t : Fin grid0.N) (X : FVec F S2x128x8x64 .f32) : (win0_3.blk t).view.read (Elt F) X = X :=
  Memref.readAt_unit_zero (Elt F) main_arg2 (funext fun a => Nat.zero_mul _) _ X
theorem blk_v (t : Fin grid0.N) (X : FVec F S2x128x8x64 .f32) : (win0_4.blk t).view.read (Elt F) X = X :=
  Memref.readAt_unit_zero (Elt F) main_arg3 (funext fun a => Nat.zero_mul _) _ X

section Run
variable (m : (ℓ : Loc nD τ sig) → Buf (Elt F) ℓ) (ρ : Dev nD → PrngReg)

/-! ## The arguments, and what the devices compute -/

def xIn (c : Dev nD) : FVec F S2x128x512 .f32 := m ((c : Thread nD τ).loc main_arg0)
def wqIn (c : Dev nD) : FVec F S512x512 .f32 := m ((c : Thread nD τ).loc main_arg1)
def woIn (c : Dev nD) : FVec F S512x512 .f32 := m ((c : Thread nD τ).loc main_arg4)
def kIn (c : Dev nD) : FVec F S2x128x8x64 .f32 := m ((c : Thread nD τ).loc main_arg2)
def vIn (c : Dev nD) : FVec F S2x128x8x64 .f32 := m ((c : Thread nD τ).loc main_arg3)
abbrev kvIn : Fin 2 → Dev nD → FVec F S2x128x8x64 .f32 := ![kIn m, vIn m]

/-- The result of device `c`. -/
def resultIn (c : Dev nD) : FVec F S2x128x512 .f32 := result (kvIn m) c (xIn m c) (wqIn m c) (woIn m c)

/-! ## The pipeline's data -/

def start (c : Dev nD) : sProp 𝕄 := iprop(G' (kvIn m) c ∗ credits (F := F) c ∗ levAts L lv)
def Φ₀ (c : Dev nD) : sProp 𝕄 := iprop(start m c ∗ bufAny (F := F) 0 c ∗ bufAny (F := F) 1 c)
def Φ₁ (c : Dev nD) : sProp 𝕄 := iprop(zeros (F := F) c ∗ bufAny (F := F) 0 c ∗ bufAny (F := F) 1 c)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wqIn m c
    | ⟨2, _⟩ => woIn m c
    | ⟨3, _⟩ => kIn m c
    | ⟨4, _⟩ => vIn m c
    | ⟨5, _⟩ => resultIn m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetched_at : ∀ w : Fin 6, w ≠ 5 → (cfg0.win w).fetch (t0_0 : Fin cfg0.N) = true := by decide

/-- Each argument's staging buffer holds the argument when the body starts. -/
theorem before_x (c : Dev nD) (d) : (dats m 0 c).before (0 : Fin 6) (t0_0 : Fin cfg0.N) d = xIn m c := by
  unfold Dat.before; rw [if_pos (fetched_at 0 (by decide))]; exact blk_x (F := F) t0_0 (xIn m c)
theorem before_wq (c : Dev nD) (d) : (dats m 0 c).before (1 : Fin 6) (t0_0 : Fin cfg0.N) d = wqIn m c := by
  unfold Dat.before; rw [if_pos (fetched_at 1 (by decide))]; exact blk_wq (F := F) t0_0 (wqIn m c)
theorem before_wo (c : Dev nD) (d) : (dats m 0 c).before (2 : Fin 6) (t0_0 : Fin cfg0.N) d = woIn m c := by
  unfold Dat.before; rw [if_pos (fetched_at 2 (by decide))]; exact blk_wo (F := F) t0_0 (woIn m c)
theorem before_k (c : Dev nD) (d) : (dats m 0 c).before (3 : Fin 6) (t0_0 : Fin cfg0.N) d = kIn m c := by
  unfold Dat.before; rw [if_pos (fetched_at 3 (by decide))]; exact blk_k (F := F) t0_0 (kIn m c)
theorem before_v (c : Dev nD) (d) : (dats m 0 c).before (4 : Fin 6) (t0_0 : Fin cfg0.N) d = vIn m c := by
  unfold Dat.before; rw [if_pos (fetched_at 4 (by decide))]; exact blk_v (F := F) t0_0 (vIn m c)

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_intro (c : Dev nD) (b : Ref sig .tc) (X : b.ty.Contents (Elt F)) : held c b X ⊢ stg c b X := by
  iintro H
  iexists _; isplitr; · (ipureintro; rfl)
  iexact H

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 6) (t0_0 : Fin cfg0.N) d))
    ∗ (∃ d, stg c cc0_stg1_0 ((dats m 0 c).before (1 : Fin 6) (t0_0 : Fin cfg0.N) d))
    ∗ (∃ d, stg c cc0_stg2_0 ((dats m 0 c).before (2 : Fin 6) (t0_0 : Fin cfg0.N) d))
    ∗ (∃ d, stg c cc0_stg3_0 ((dats m 0 c).before (3 : Fin 6) (t0_0 : Fin cfg0.N) d))
    ∗ (∃ d, stg c cc0_stg4_0 ((dats m 0 c).before (4 : Fin 6) (t0_0 : Fin cfg0.N) d))
    ∗ (∃ d, stg c cc0_stg5_0 ((dats m 0 c).before (5 : Fin 6) (t0_0 : Fin cfg0.N) d)))

def bodyPost (c : Dev nD) : sProp 𝕄 :=
  iprop(Φ₁ (F := F) c ∗ (dats m 0 c).owesAt () (t0_0 : Fin cfg0.N).succ ∗ stg c cc0_stg0_0 (xIn m c) ∗ stg c cc0_stg1_0 (wqIn m c)
    ∗ stg c cc0_stg2_0 (woIn m c) ∗ stg c cc0_stg3_0 (kIn m c) ∗ stg c cc0_stg4_0 (vIn m c) ∗ stg c cc0_stg5_0 (resultIn m c))

theorem owes_in (c : Dev nD) : (dats m 0 c).owesAt () (t0_0 : Fin cfg0.N).castSucc ⊢ owing (F := F) c allDue := by
  unfold Dat.owesAt Pipeline.owesWithin owing
  iintro ⟨%W, %hW, HO⟩
  iexists W; iexact HO
theorem owes_out (c : Dev nD) : owing (F := F) c [] ⊢ (dats m 0 c).owesAt () (t0_0 : Fin cfg0.N).succ := by
  unfold Dat.owesAt Pipeline.owesWithin owing
  iintro ⟨%W, HO⟩
  iexists W
  isplitr; · ipureintro; exact fun _ _ => Or.inl trivial
  iexact HO

theorem body_run (c : Dev nD) : bodyPre m c ⊢ run c
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 cc0_scratch5) fun _ => bodyPost m c := by
  unfold bodyPre Φ₀ start G'
  iintro ⟨⟨⟨⟨%K, HR, Hlin⟩, Hcr, Hlev⟩, Hbufs⟩, Ho, ⟨%d0, %g0, %e0, H0⟩, ⟨%d1, %g1, %e1, H1⟩, ⟨%d2, %g2, %e2, H2⟩, ⟨%d3, %g3, %e3, H3⟩,
    ⟨%d4, %g4, %e4, H4⟩, ⟨%d5, %g5, %e5, H5⟩⟩
  have x0 : g0 = xIn m c := e0.trans (before_x m c d0)
  have x1 : g1 = wqIn m c := e1.trans (before_wq m c d1)
  have x2 : g2 = woIn m c := e2.trans (before_wo m c d2)
  have x3 : g3 = kIn m c := e3.trans (before_k m c d3)
  have x4 : g4 = vIn m c := e4.trans (before_v m c d4)
  subst x0; subst x1; subst x2; subst x3; subst x4
  ihave HO := (owes_in m c) $$ Ho
  ihave Hb := (begins_intro (kvIn m) K c) $$ [HR Hlin Hcr Hlev]
  · isplitl [HR]; · iexact HR
    isplitl [Hlin]; · iexact Hlin
    isplitl [Hcr] <;> iassumption
  iapply (walk (kvIn m) K c (xIn m c) (wqIn m c) (woIn m c) _ _ _ _ _ _ _ _ g5 _) $$ [Hb HO Hbufs H0 H1 H2 H3 H4 H5]
  · isplitl [Hb]; · iexact Hb
    isplitl [HO]; · iexact HO
    isplitl [Hbufs]; · iexact Hbufs
    isplitl [H0]; · iexact H0
    isplitl [H1]; · iexact H1
    isplitl [H2]; · iexact H2
    isplitl [H3]; · iexact H3
    isplitl [H4]; · iexact H4
    iexact H5
  iintro ⟨Hz, HO, Hbufs, H0, H1, H2, H3, H4, H5⟩
  unfold bodyPost Φ₁
  isplitl [Hz Hbufs]; · isplitl [Hz] <;> iassumption
  isplitl [HO]; · iapply (owes_out m c); iexact HO
  isplitl [H0]; · iapply (stg_intro c cc0_stg0_0 (xIn m c)); iexact H0
  isplitl [H1]; · iapply (stg_intro c cc0_stg1_0 (wqIn m c)); iexact H1
  isplitl [H2]; · iapply (stg_intro c cc0_stg2_0 (woIn m c)); iexact H2
  isplitl [H3]; · iapply (stg_intro c cc0_stg3_0 (kIn m c)); iexact H3
  isplitl [H4]; · iapply (stg_intro c cc0_stg4_0 (vIn m c)); iexact H4
  iapply (stg_intro c cc0_stg5_0 (resultIn m c)); iexact H5

theorem body_obligation (c : Dev nD) : BodyObligation (dats (F := F) m 0 c) (defs₀ (F := F)) 𝒱₀ () Set.univ := fun t => by
  rw [show t = (t0_0 : Fin cfg0.N) from fin_N0 t]
  rw [bigSep_W0, bigSep_W0]
  simp only [owns_whole_eq]
  exact body_run m c

/-! ## The launch's side conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (kvIn m) c)
      ⊢ |={Set.univ}=> iprop(start m c ∗ emp) := by
  iintro ⟨-, Hlev, Hcr, -, HG⟩
  ihave Hc := (credits_of (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [zeros_eq]
  iintro ⟨⟨HU, HO⟩, Hr⟩
  isplitl [HU]; · iexact HU
  isplitl [HO]; · iexact HO
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ allDue (by fin_cases w <;> fin_cases s <;> decide)
    · exact mayWait c _ [] (fun x hx => absurd hx List.not_mem_nil)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- Every weakly fair execution from zero counters ends, each array holding what the data say and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (kvIn m)) (G' := G' (kvIn m)) (u₀ := u₀)
    (hu₀ := by
      unfold u₀
      iintro Hu
      ihave H := (ownU_pair _ _) $$ Hu
      icases H with ⟨HP, HX⟩
      imod (fund_all (kvIn m)) $$ HX with HG
      imodintro
      isplitl [HP] <;> iassumption)
    (hglob := glob (kvIn m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_in (c : Dev nD) (w : Fin 6) (h : (cfg0.win w).isOut = false) : finalA m c w = m ((cfg0.win w).arr.view.loc (c : Thread nD τ)) :=
  (dats m 0 c).arrAt_in w h _

theorem out_whole : win0_5.WholeAt t0_0 := by decide +kernel

theorem final_out (c : Dev nD) : finalA m c (5 : Fin 6) = resultIn m c :=
  (dats m 0 c).arrAt_eq_of_after_last (5 : Fin 6) (t0_0 : Fin cfg0.N) out_whole (resultIn m c) fun j => rfl

/-- The run with its value: the results, and the arguments as they were. -/
theorem run_value : θ_run defs (onTc (τ := τ) (main (F := F))) ⟨m, fun _ => 0, ρ⟩ (fun r =>
    (∀ c : Dev nD, r.2.mem ((c : Thread nD τ).loc main_v1) = resultIn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run _ _ _).mono (fun r h => ⟨fun c =>
    ⟨(h.1 c (5 : Fin 6)).trans (final_out m c), (h.1 c (0 : Fin 6)).trans (final_in m c 0 rfl), (h.1 c (1 : Fin 6)).trans (final_in m c 1 rfl),
      (h.1 c (3 : Fin 6)).trans (final_in m c 3 rfl), (h.1 c (4 : Fin 6)).trans (final_in m c 4 rfl), (h.1 c (2 : Fin 6)).trans (final_in m c 2 rfl)⟩, h.2⟩) (run_main m ρ)

end Run

end Cert.AttKernelIdeal

end
-- ==== Proof.Frames.lean ====
/-
# The frames

Each program ends, leaves its arguments as they were and every semaphore counter at zero. The kernel's and its
idealization's frames are their runs read at the arguments; the reference is a line of host operations and has no
semaphore.
-/
module

public import proofs.«01_k».proof.Defs
public import proofs.«01_k».proof.Proof.KernelIdeal.Run
public import proofs.«01_k».proof.Proof.Kernel.Run
public import proofs.«01_k».proof.Proof.Gen.ReferenceIdeal.Run
public import Idealize.ShloMosaic.Lib.Quiescent

@[expose] public section

noncomputable section

namespace Cert.Att

open Idealize.ShloMosaic Idealize.SL.Sem

/-- The kernel's frame: its run, without the result. -/
theorem frame_kernel : Cert.quiescent_Kernel (hKernel := Cert.Kernel.Gen.facts) := fun m ρ _ =>
  (θ_run _ _ _).mono (fun _ h => ⟨fun c => (h.1 c).2, h.2⟩) (Cert.AttKernel.run_value (F := Bits) m ρ)

/-- The idealization's frame: its run, without the result. -/
theorem frame_kernelIdeal : Cert.quiescent_KernelIdeal (hKernelIdeal := Cert.KernelIdeal.Gen.facts) := fun m ρ _ =>
  (θ_run _ _ _).mono (fun _ h => ⟨fun c => (h.1 c).2, h.2⟩) (Cert.AttKernelIdeal.run_value (F := Ideal) m ρ)

/-- The reference's frame: its run, without the result; it declares no semaphore. -/
theorem frame_referenceIdeal : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

end Cert.Att

end
-- ==== Proof.Attend.lean ====
/-
# Attention of one row, in extended reals

A row of scores `s` and one coordinate `v` of the values: the values averaged with the weights `exp (s j - max s)`. A row
kept chunk by chunk — a running maximum, the running sum of the weights and the running weighted sum, both rescaled when
the maximum grows — comes to the same, whatever the scores are.
-/
module

public import Idealize.ShloMosaic.PureOps.Ideal
public import Mathlib.Data.EReal.Operations
public import Mathlib.Data.EReal.Inv
public import Mathlib.Algebra.BigOperators.Group.Finset.Basic
public import Mathlib.Data.Finset.Lattice.Fold

@[expose] public section

noncomputable section

namespace Cert.Att

open Idealize.ShloMosaic
open scoped BigOperators

/-! ## The exponential -/

/-- What is weighted against `m` and rescaled to a larger `m'` is weighted against `m'`. -/
theorem exp_rescale {s m m' : EReal} (h : s ≤ m) (h' : m ≤ m') :
    Ideal.exp (s - m) * Ideal.exp (m - m') = Ideal.exp (s - m') := by
  induction s with
  | bot => simp [EReal.bot_sub]
  | top =>
    obtain rfl : m = ⊤ := top_le_iff.mp h
    obtain rfl : m' = ⊤ := top_le_iff.mp h'
    simp [EReal.sub_top]
  | coe s =>
    induction m' with
    | bot => exact absurd (le_bot_iff.mp (h.trans h')) (EReal.coe_ne_bot s)
    | top => simp [EReal.sub_top]
    | coe m' =>
      induction m with
      | bot => exact absurd (le_bot_iff.mp h) (EReal.coe_ne_bot s)
      | top => exact absurd (top_le_iff.mp h') (EReal.coe_ne_top m')
      | coe m =>
        rw [← EReal.coe_sub, ← EReal.coe_sub, ← EReal.coe_sub, Ideal.exp_coe, Ideal.exp_coe, Ideal.exp_coe, ← EReal.coe_mul,
          ← Real.exp_add]
        congr 2
        ring

/-- An exponential is not negative. -/
theorem exp_nonneg (x : EReal) : 0 ≤ Ideal.exp x := by
  induction x with
  | bot => simp
  | top => simp
  | coe r => rw [Ideal.exp_coe]; exact_mod_cast (Real.exp_pos r).le

/-- The factor that takes a smaller maximum to a larger is finite. -/
theorem exp_sub_ne_top {m m' : EReal} (h : m ≤ m') : Ideal.exp (m - m') ≠ ⊤ := by
  induction m' with
  | bot => obtain rfl := le_bot_iff.mp h; simp [EReal.bot_sub]
  | top => simp [EReal.sub_top]
  | coe m' =>
    induction m with
    | bot => simp [EReal.bot_sub]
    | top => exact absurd (top_le_iff.mp h) (EReal.coe_ne_top m')
    | coe m => rw [← EReal.coe_sub, Ideal.exp_coe]; exact EReal.coe_ne_top _

/-- A factor that is not negative and finite distributes over a sum. -/
theorem sum_mul_finite {ι : Type} (S : Finset ι) (f : ι → EReal) {a : EReal} (h0 : 0 ≤ a) (h1 : a ≠ ⊤) :
    (∑ j ∈ S, f j) * a = ∑ j ∈ S, f j * a := by
  classical
  induction S using Finset.induction_on with
  | empty => simp
  | insert b S hb ih =>
    rw [Finset.sum_insert hb, Finset.sum_insert hb, ← ih, mul_comm _ a, EReal.left_distrib_of_nonneg_of_ne_top h0 h1, mul_comm a,
      mul_comm a]

/-! ## A row -/

/-- One coordinate of attention over the keys `ι`: the values `v` averaged with the weights of the scores `s`. -/
def attend {ι : Type} [Fintype ι] (s v : ι → EReal) : EReal :=
  Ideal.div (∑ j, Ideal.exp (s j - Finset.univ.sup s) * v j) (∑ j, Ideal.exp (s j - Finset.univ.sup s))

/-- Attention does not depend on the order of the keys. -/
theorem attend_equiv {ι κ : Type} [Fintype ι] [Fintype κ] (e : ι ≃ κ) (s v : κ → EReal) :
    attend (fun j => s (e j)) (fun j => v (e j)) = attend s v := by
  have hm : Finset.univ.sup (fun j => s (e j)) = Finset.univ.sup s :=
    le_antisymm (Finset.sup_le fun j _ => Finset.le_sup (f := s) (Finset.mem_univ (e j)))
      (Finset.sup_le fun k _ => by
        simpa using Finset.le_sup (f := fun j => s (e j)) (Finset.mem_univ (e.symm k)))
  unfold attend
  rw [hm, ← Equiv.sum_comp e fun k => Ideal.exp (s k - Finset.univ.sup s) * v k,
    ← Equiv.sum_comp e fun k => Ideal.exp (s k - Finset.univ.sup s)]

/-! ## Chunk by chunk -/

variable {C J : Type} [DecidableEq C] [Fintype J]

/-- The largest score of the chunks `A`. -/
def peak (s : C → J → EReal) (A : Finset C) : EReal := A.sup fun c => Finset.univ.sup (s c)

/-- The sum over the chunks `A` of the weights against `m`, each times `f`. -/
def sumOver (s f : C → J → EReal) (A : Finset C) (m : EReal) : EReal := ∑ c ∈ A, ∑ j, Ideal.exp (s c j - m) * f c j

theorem peak_insert (s : C → J → EReal) (A : Finset C) (b : C) : peak s (insert b A) = max (peak s A) (Finset.univ.sup (s b)) := by
  unfold peak
  rw [Finset.sup_insert, max_comm]

theorem le_peak (s : C → J → EReal) {A : Finset C} {c : C} (hc : c ∈ A) (j : J) : s c j ≤ peak s A :=
  (Finset.le_sup (f := s c) (Finset.mem_univ j)).trans (Finset.le_sup (f := fun c => Finset.univ.sup (s c)) hc)

/-- A weighted sum over one more chunk: what there was, rescaled to the new maximum, and the chunk's own. -/
theorem sumOver_insert (s f : C → J → EReal) (A : Finset C) {b : C} (hb : b ∉ A) :
    sumOver s f (insert b A) (peak s (insert b A))
      = sumOver s f A (peak s A) * Ideal.exp (peak s A - peak s (insert b A))
        + ∑ j, Ideal.exp (s b j - peak s (insert b A)) * f b j := by
  have hle : peak s A ≤ peak s (insert b A) := by rw [peak_insert]; exact le_max_left _ _
  have h0 := exp_nonneg (peak s A - peak s (insert b A))
  have h1 := exp_sub_ne_top hle
  unfold sumOver
  rw [Finset.sum_insert hb, add_comm, sum_mul_finite _ _ h0 h1]
  refine congrArg (· + _) (Finset.sum_congr rfl fun c hc => ?_)
  rw [sum_mul_finite _ _ h0 h1]
  refine Finset.sum_congr rfl fun j _ => ?_
  rw [mul_right_comm, exp_rescale (le_peak s hc j) hle]

/-- All chunks met, the quotient of the two running sums is attention over all keys. -/
theorem attend_chunks [Fintype C] (s v : C → J → EReal) :
    Ideal.div (sumOver s v Finset.univ (peak s Finset.univ)) (sumOver s (fun _ _ => 1) Finset.univ (peak s Finset.univ))
      = attend (fun p : C × J => s p.1 p.2) (fun p => v p.1 p.2) := by
  have hm : peak s Finset.univ = Finset.univ.sup fun p : C × J => s p.1 p.2 :=
    le_antisymm (Finset.sup_le fun c _ => Finset.sup_le fun j _ =>
        Finset.le_sup (f := fun p : C × J => s p.1 p.2) (Finset.mem_univ (c, j)))
      (Finset.sup_le fun p _ => le_peak s (Finset.mem_univ p.1) p.2)
  unfold attend sumOver
  rw [hm]
  simp only [mul_one, Fintype.sum_prod_type]

end Cert.Att

end
-- ==== Proof.HeadValue.lean ====
/-
# What one head computes

A head's output, in extended reals: each row of its queries attends over the keys of all eight slots.
-/
module

public import proofs.«01_k».proof.Proof.Attend
public import proofs.«01_k».proof.Proof.Frames
public import Idealize.ShloMosaic.Lib.MatmulPlain
public import Idealize.ShloMosaic.Lib.ValueLayoutCasts
public import Idealize.ShloMosaic.Lib.ValueIdx
public import Idealize.ShloMosaic.Lib.IdealHost

@[expose] public section

set_option maxRecDepth 16384

noncomputable section

namespace Cert.AttKernelIdeal

open Cert.KernelIdeal Cert.KernelIdeal.Gen Cert.Att
open Idealize.ShloMosaic
open scoped BigOperators

/-! ## Two bit patterns -/

/-- The scale of the scores, one eighth. -/
abbrev eighth : EReal := Ideal.ofBits .f32 0x3E000000#32

/-- The pattern a maximum starts from is the bottom element. -/
theorem ofBits_bot : Ideal.ofBits .f32 0xFF800000#32 = ⊥ := by simp [Ideal.ofBits, Ideal.ieee]

/-! ## Each operation at an index -/

section ops
variable (q k v : FVec Ideal S128x64 .bf16) (s p : FVec Ideal S128x128 .f32) (m m' l a : FVec Ideal S128x1 .f32)
  (acc : FVec Ideal S128x64 .f32) (r j : Fin 128) (d : Fin 64)

theorem scores_at : scores q k (ValueIdx.ix2 r j) = (∑ d : Fin 64, q (ValueIdx.ix2 r d) * k (ValueIdx.ix2 j d)) * eighth := by
  show FloatOps.matmul (DotDims.transposedRhs 128 64 128) none q k (constant S128x128 .f32 0x00000000#32) (ValueIdx.ix2 r j) * eighth = _
  rw [Ideal.matmul_transposedRhs_apply, ValueIdx.constant_apply, Ideal.ofBits_zero_f32, zero_add]

/-- A row's number with a column put back. -/
theorem lift_row (h : S128x128.Reduces [1] S128) (r j : Fin 128) : h.lift (ValueIdx.ix1 r) j = ValueIdx.ix2 r j := by
  funext c; apply Fin.ext
  match c with
  | ⟨0, _⟩ => rfl
  | ⟨1, _⟩ => rfl

theorem rowMax_at : rowMax s (ValueIdx.ix2 r 0) = Finset.univ.sup fun j : Fin 128 => s (ValueIdx.ix2 r j) := by
  show shapeCast S128x1 _ shapeCasts_S128_S128x1 (ValueIdx.ix2 r (0 : Fin 1)) = _
  rw [ValueIdx.shapeCast_a_a1_apply]
  refine (Ideal.multiReduction_maximumf_single (s := S128x128) (a := 1) s 0xFF800000#32 reduces_S128x128_S128 (.inl rfl) rfl (ValueIdx.ix1 r)).trans ?_
  show Finset.fold max (Ideal.ofBits .f32 0xFF800000#32) _ _ = _
  rw [ofBits_bot]
  exact congrArg (fun f => Finset.fold max ⊥ f (Finset.univ : Finset (Fin 128)))
    (funext fun j => congrArg s (lift_row reduces_S128x128_S128 r j))

theorem rowSum_at : rowSum p (ValueIdx.ix2 r 0) = ∑ j : Fin 128, p (ValueIdx.ix2 r j) := by
  show shapeCast S128x1 _ shapeCasts_S128_S128x1 (ValueIdx.ix2 r (0 : Fin 1)) = _
  rw [ValueIdx.shapeCast_a_a1_apply]
  refine (Ideal.multiReduction_add_single (s := S128x128) (a := 1) p 0x00000000#32 reduces_S128x128_S128 (.inl rfl) rfl (ValueIdx.ix1 r)).trans ?_
  exact Finset.sum_congr rfl fun j _ => congrArg p (lift_row reduces_S128x128_S128 r j)

theorem wide_at : broadcastTo S128x128 m broadcasts_S128x1_S128x128 (ValueIdx.ix2 r j) = m (ValueIdx.ix2 r 0) :=
  broadcastTo_apply _ _ _ _ fun ax => match ax with
    | ⟨0, _⟩ => rfl
    | ⟨1, _⟩ => rfl

theorem wide64_at : broadcastTo S128x64 m broadcasts_S128x1_S128x64 (ValueIdx.ix2 r d) = m (ValueIdx.ix2 r 0) :=
  broadcastTo_apply _ _ _ _ fun ax => match ax with
    | ⟨0, _⟩ => rfl
    | ⟨1, _⟩ => rfl

theorem weights_at : weights s m (ValueIdx.ix2 r j) = Ideal.exp (s (ValueIdx.ix2 r j) - m (ValueIdx.ix2 r 0)) := by
  show Ideal.exp (s (ValueIdx.ix2 r j) - broadcastTo S128x128 m broadcasts_S128x1_S128x128 (ValueIdx.ix2 r j)) = _
  rw [wide_at]

theorem weighted_at : weighted p v (ValueIdx.ix2 r d) = ∑ j : Fin 128, p (ValueIdx.ix2 r j) * v (ValueIdx.ix2 j d) := by
  show FloatOps.matmul (DotDims.plain 128 128 64) none (truncf .bf16 p bitsLt_bf16_f32) v (constant S128x64 .f32 0x00000000#32) (ValueIdx.ix2 r d) = _
  rw [Ideal.matmul_plain_apply, ValueIdx.constant_apply, Ideal.ofBits_zero_f32, zero_add]
  rfl

theorem rescale_at : rescale m m' (ValueIdx.ix2 r 0) = Ideal.exp (m (ValueIdx.ix2 r 0) - m' (ValueIdx.ix2 r 0)) := rfl

theorem nextSum_at : nextSum l a p (ValueIdx.ix2 r 0)
    = l (ValueIdx.ix2 r 0) * a (ValueIdx.ix2 r 0) + ∑ j : Fin 128, p (ValueIdx.ix2 r j) := by
  rw [← rowSum_at]; rfl

theorem nextAcc_at : nextAcc acc a p v (ValueIdx.ix2 r d)
    = acc (ValueIdx.ix2 r d) * a (ValueIdx.ix2 r 0) + ∑ j : Fin 128, p (ValueIdx.ix2 r j) * v (ValueIdx.ix2 j d) := by
  rw [← weighted_at, ← wide64_at a r d]; rfl

end ops

/-! ## The running state -/

/-- The score of row `r` against key `j` of slot `s`. -/
abbrev scoreAt (q : FVec Ideal S128x64 .bf16) (k : Fin 8 → FVec Ideal S128x64 .bf16) (r : Fin 128) (s : Fin 8) (j : Fin 128) : EReal :=
  (∑ d : Fin 64, q (ValueIdx.ix2 r d) * k s (ValueIdx.ix2 j d)) * eighth

/-- The running maximum, sum and accumulator are those of the slots `A`. -/
structure Holds (q : FVec Ideal S128x64 .bf16) (k v : Fin 8 → FVec Ideal S128x64 .bf16) (A : Finset (Fin 8))
    (m l : FVec Ideal S128x1 .f32) (o : FVec Ideal S128x64 .f32) : Prop where
  hm : ∀ r : Fin 128, m (ValueIdx.ix2 r 0) = peak (scoreAt q k r) A
  hl : ∀ r : Fin 128, l (ValueIdx.ix2 r 0) = sumOver (scoreAt q k r) (fun _ _ => 1) A (peak (scoreAt q k r) A)
  ho : ∀ (r : Fin 128) (d : Fin 64), o (ValueIdx.ix2 r d)
    = sumOver (scoreAt q k r) (fun s j => v s (ValueIdx.ix2 j d)) A (peak (scoreAt q k r) A)

variable {q : FVec Ideal S128x64 .bf16} {k v : Fin 8 → FVec Ideal S128x64 .bf16}

theorem scores_row (s : Fin 8) (r j : Fin 128) : scores q (k s) (ValueIdx.ix2 r j) = scoreAt q k r s j := scores_at q (k s) r j

theorem rowMax_row (s : Fin 8) (r : Fin 128) : rowMax (scores q (k s)) (ValueIdx.ix2 r 0) = Finset.univ.sup (scoreAt q k r s) := by
  rw [rowMax_at]
  exact congrArg (Finset.univ : Finset (Fin 128)).sup (funext fun j => scores_row s r j)

/-- The first slot. -/
theorem holds_first (s : Fin 8) : Holds q k v {s} (rowMax (scores q (k s)))
    (rowSum (weights (scores q (k s)) (rowMax (scores q (k s)))))
    (weighted (weights (scores q (k s)) (rowMax (scores q (k s)))) (v s)) where
  hm r := by rw [rowMax_row, peak, Finset.sup_singleton]
  hl r := by
    rw [rowSum_at, sumOver, Finset.sum_singleton, peak, Finset.sup_singleton]
    refine Finset.sum_congr rfl fun j _ => ?_
    rw [weights_at, rowMax_row, scores_row, mul_one]
  ho r d := by
    rw [weighted_at, sumOver, Finset.sum_singleton, peak, Finset.sup_singleton]
    refine Finset.sum_congr rfl fun j _ => ?_
    rw [weights_at, rowMax_row, scores_row]

/-- One more slot. -/
theorem holds_next {A : Finset (Fin 8)} {m l : FVec Ideal S128x1 .f32} {o : FVec Ideal S128x64 .f32} (h : Holds q k v A m l o)
    (s : Fin 8) (hs : s ∉ A) :
    Holds q k v (insert s A) (maximumf m (rowMax (scores q (k s))))
      (nextSum l (rescale m (maximumf m (rowMax (scores q (k s))))) (weights (scores q (k s)) (maximumf m (rowMax (scores q (k s))))))
      (nextAcc o (rescale m (maximumf m (rowMax (scores q (k s))))) (weights (scores q (k s)) (maximumf m (rowMax (scores q (k s))))) (v s)) := by
  have hm : ∀ r : Fin 128, maximumf m (rowMax (scores q (k s))) (ValueIdx.ix2 r 0) = peak (scoreAt q k r) (insert s A) := fun r => by
    rw [ValueIdx.maximumf_apply, rowMax_row, h.hm, peak_insert]
  have hw : ∀ r j : Fin 128, weights (scores q (k s)) (maximumf m (rowMax (scores q (k s)))) (ValueIdx.ix2 r j)
      = Ideal.exp (scoreAt q k r s j - peak (scoreAt q k r) (insert s A)) := fun r j => by
    rw [weights_at, hm, scores_row]
  refine ⟨hm, fun r => ?_, fun r d => ?_⟩
  · rw [nextSum_at, rescale_at, hm, h.hm, h.hl, sumOver_insert _ _ _ hs]
    refine congrArg (_ + ·) (Finset.sum_congr rfl fun j _ => ?_)
    rw [hw, mul_one]
  · rw [nextAcc_at, rescale_at, hm, h.hm, h.ho, sumOver_insert _ _ _ hs]
    refine congrArg (_ + ·) (Finset.sum_congr rfl fun j _ => ?_)
    rw [hw]

/-- All slots met, the quotient is attention over the keys of the eight slots. -/
theorem quotient_at {m l : FVec Ideal S128x1 .f32} {o : FVec Ideal S128x64 .f32} (h : Holds q k v Finset.univ m l o)
    (r : Fin 128) (d : Fin 64) :
    truncf .bf16 (divf o (broadcastTo S128x64 l broadcasts_S128x1_S128x64)) bitsLt_bf16_f32 (ValueIdx.ix2 r d)
      = attend (fun p : Fin 8 × Fin 128 => scoreAt q k r p.1 p.2) (fun p => v p.1 (ValueIdx.ix2 p.2 d)) := by
  refine Eq.trans ?_ (attend_chunks (scoreAt q k r) fun s j => v s (ValueIdx.ix2 j d))
  rw [← h.hl r, ← h.ho r d, ValueIdx.truncf_apply, ValueIdx.divf_apply, wide64_at]

/-- The slots in the order they are met are all. -/
theorem slots_met : (insert 7 (insert 6 (insert 4 (insert 5 (insert 3 (insert 2 (insert 1 {0})))))) : Finset (Fin 8)) = Finset.univ := by
  decide

/-- A head's output: each row attends over the keys of the eight slots. -/
theorem headOut_at (q : FVec Ideal S128x64 .bf16) (k v : Fin 8 → FVec Ideal S128x64 .bf16) (r : Fin 128) (d : Fin 64) :
    headOut q k v (ValueIdx.ix2 r d)
      = attend (fun p : Fin 8 × Fin 128 => scoreAt q k r p.1 p.2) (fun p => v p.1 (ValueIdx.ix2 p.2 d)) :=
  quotient_at (slots_met ▸ holds_next (holds_next (holds_next (holds_next (holds_next (holds_next (holds_next
    (holds_first (q := q) (k := k) (v := v) 0) 1 (by decide)) 2 (by decide)) 3 (by decide)) 5 (by decide)) 4 (by decide))
    6 (by decide)) 7 (by decide)) r d

end Cert.AttKernelIdeal

end
-- ==== Proof.BlockValue.lean ====
/-
# What a device's block holds

The block a device writes, at an index: the output projection of its rows' attention over the keys of all devices.
-/
module

public import proofs.«01_k».proof.Proof.HeadValue

@[expose] public section

set_option maxRecDepth 16384

noncomputable section

namespace Cert.AttKernelIdeal

open Cert.KernelIdeal Cert.KernelIdeal.Gen Cert.Att
open Idealize.ShloMosaic
open scoped BigOperators

/-! ## Rows, columns, heads -/

/-- The row of a matrix of 256 rows that batch row `b` and row `r` become. -/
abbrev rowNo (b : Fin 2) (r : Fin 128) : Fin 256 := ⟨128 * b.val + r.val, by have := b.isLt; have := r.isLt; omega⟩
/-- The column that head `h` and coordinate `d` become. -/
abbrev colNo (h : Fin 8) (d : Fin 64) : Fin 512 := ⟨64 * h.val + d.val, by have := h.isLt; have := d.isLt; omega⟩
/-- The head a column belongs to. -/
abbrev headOf (f : Fin 512) : Fin 8 := ⟨f.val / 64, by have := f.isLt; omega⟩
/-- The coordinate of a column in its head. -/
abbrev laneOf (f : Fin 512) : Fin 64 := ⟨f.val % 64, Nat.mod_lt _ (by decide)⟩

/-! ## The operands at an index -/

theorem kvMat_at (X : FVec Ideal S2x128x8x64 .f32) (b : Fin 2) (j : Fin 128) (h : Fin 8) (d : Fin 64) :
    kvMat X (ValueIdx.ix2 (rowNo b j) (colNo h d)) = X (ValueIdx.ix4 b j h d) := by
  refine (shapeCast_apply _ _ _ (ValueIdx.ix4 b j h d) ?_).trans (shapeCast_apply _ _ _ _ rfl)
  rw [Shape.rowMajor_val_two, Shape.rowMajor_val_four]
  show ((b.val * 128 + j.val) * 8 + h.val) * 64 + d.val = (128 * b.val + j.val) * 512 + (64 * h.val + d.val)
  ring

theorem head_row (b : Fin 2) (h : Fin 8) : (headNo b h).val / 8 = b.val := by
  have := h.isLt; show (8 * b.val + h.val) / 8 = b.val; omega

theorem head_col (b : Fin 2) (h : Fin 8) : (headNo b h).val % 8 = h.val := by
  have := h.isLt; show (8 * b.val + h.val) % 8 = h.val; omega

/-- A head's slice of a matrix of 256 rows and 512 columns. -/
theorem slice_head {φ : FTy} (X : FVec Ideal S256x512 φ) (b : Fin 2) (h : Fin 8) (r : Fin 128) (d : Fin 64) :
    extractStridedSlice S128x64 (headAt (headNo b h)) X (slices_head (headNo b h)) (ValueIdx.ix2 r d)
      = X (ValueIdx.ix2 (rowNo b r) (colNo h d)) :=
  extractStridedSlice_apply _ _ _ _ _ fun ax => match ax with
    | ⟨0, _⟩ => by show 128 * b.val + r.val = 128 * ((headNo b h).val / 8) + r.val; rw [head_row]
    | ⟨1, _⟩ => by show 64 * h.val + d.val = 64 * ((headNo b h).val % 8) + d.val; rw [head_col]

theorem storePay_at (X : FVec Ideal S256x512 .f32) (b : Fin 2) (h : Fin 8) (r : Fin 128) (d : Fin 64) :
    storePay X (headNo b h) (ValueIdx.ix5 0 0 0 r d) = X (ValueIdx.ix2 (rowNo b r) (colNo h d)) := by
  refine (shapeCast_apply _ _ _ (ValueIdx.ix2 r d) ?_).trans (slice_head X b h r d)
  rw [Shape.rowMajor_val_two, Shape.rowMajor_val_five]
  show r.val * 64 + d.val = (((0 * 1 + 0) * 1 + 0) * 128 + r.val) * 64 + d.val
  ring

theorem chunkHead_at (kc : FVec Ideal S1x2x8x128x64 .bf16) (b : Fin 2) (h : Fin 8) (j : Fin 128) (d : Fin 64) :
    chunkHead kc (headNo b h) (ValueIdx.ix2 j d) = kc (ValueIdx.ix5 0 b h j d) := by
  refine (shapeCast_apply _ _ _ (ValueIdx.ix4 0 0 j d) ?_).trans ((extractStridedSlice_apply _ _ _ _ (ValueIdx.ix4 b h j d) ?_).trans
    (shapeCast_apply _ _ _ (ValueIdx.ix5 0 b h j d) ?_))
  · rw [Shape.rowMajor_val_two, Shape.rowMajor_val_four]
    show ((0 * 1 + 0) * 128 + j.val) * 64 + d.val = j.val * 64 + d.val
    ring
  · exact fun ax => match ax with
      | ⟨0, _⟩ => by show b.val = (headNo b h).val / 8 + 0; rw [head_row]; rfl
      | ⟨1, _⟩ => by show h.val = (headNo b h).val % 8 + 0; rw [head_col]; rfl
      | ⟨2, _⟩ => by show j.val = 0 + j.val; rw [Nat.zero_add]
      | ⟨3, _⟩ => by show d.val = 0 + d.val; rw [Nat.zero_add]
  · rw [Shape.rowMajor_val_four, Shape.rowMajor_val_five]
    show (((0 * 2 + b.val) * 8 + h.val) * 128 + j.val) * 64 + d.val = ((b.val * 8 + h.val) * 128 + j.val) * 64 + d.val
    ring

/-- A head of a slot is that head of the device whose keys or values the slot holds. -/
theorem chunk_at (X : FVec Ideal S2x128x8x64 .f32) (b : Fin 2) (h : Fin 8) (j : Fin 128) (d : Fin 64) :
    chunkHead (chunkV X) (headNo b h) (ValueIdx.ix2 j d) = X (ValueIdx.ix4 b j h d) :=
  (chunkHead_at _ b h j d).trans ((storePay_at (kvMat X) b h j d).trans (kvMat_at X b j h d))

/-- The query of batch row `b`, row `r`, head `h`, coordinate `d`. -/
abbrev queryAt (x : FVec Ideal S2x128x512 .f32) (wq : FVec Ideal S512x512 .f32) (b : Fin 2) (r : Fin 128) (h : Fin 8) (d : Fin 64) : EReal :=
  ∑ e : Fin 512, x (ValueIdx.ix3 b r e) * wq (ValueIdx.ix2 e (colNo h d))

theorem qHead_at (x : FVec Ideal S2x128x512 .f32) (wq : FVec Ideal S512x512 .f32) (b : Fin 2) (r : Fin 128) (h : Fin 8) (d : Fin 64) :
    qHead x wq (headNo b h) (ValueIdx.ix2 r d) = queryAt x wq b r h d := by
  refine (slice_head (qMat x wq) b h r d).trans ?_
  show FloatOps.matmul (DotDims.plain 256 512 512) none _ _ (constant S256x512 .f32 0x00000000#32) (ValueIdx.ix2 (rowNo b r) (colNo h d)) = _
  rw [Ideal.matmul_plain_apply, ValueIdx.constant_apply, Ideal.ofBits_zero_f32, zero_add]
  refine Finset.sum_congr rfl fun e _ => congrArg₂ (· * ·) ?_ ?_
  · refine (shapeCast_apply (s := S2x128x512) (t := S256x512) (shapeCast S2x128x512 x shapeCasts_S2x128x512_S2x128x512)
      shapeCasts_S2x128x512_S256x512 _ (ValueIdx.ix3 b r e) ?_).trans (shapeCast_apply _ _ _ _ rfl)
    rw [Shape.rowMajor_val_two, Shape.rowMajor_val_three]
    show (b.val * 128 + r.val) * 512 + e.val = (128 * b.val + r.val) * 512 + e.val
    ring
  · exact shapeCast_apply _ _ _ _ rfl

/-! ## The block -/

/-- The heads of a batch row. -/
theorem rowOut_at (H : Fin 16 → FVec Ideal S128x64 .bf16) (g : Fin 8 → Fin 16) (r : Fin 128) (f : Fin 512) :
    rowOut H (g 0) (g 1) (g 2) (g 3) (g 4) (g 5) (g 6) (g 7) (ValueIdx.ix2 r f) = H (g (headOf f)) (ValueIdx.ix2 r (laneOf f)) :=
  concatenate_ofFn_apply (t := S128x512) (s₁ := S128x64) 1 (fun n : Fin 8 => H (g n))
    concatenates_S128x64_S128x64_S128x64_S128x64_S128x64_S128x64_S128x64_S128x64_S128x512_d1 rfl 64 rfl (ValueIdx.ix2 r f) (headOf f) rfl
    (ValueIdx.ix2 r (laneOf f)) rfl fun b hb => match b, hb with
      | ⟨0, _⟩, _ => rfl
      | ⟨1, _⟩, hb => absurd rfl hb

/-- The two batch rows. -/
theorem rows_at {φ : FTy} (R : Fin 2 → FVec Ideal S128x512 φ) (b : Fin 2) (r : Fin 128) (f : Fin 512) :
    concatenate S256x512 0 [⟨S128x512, R 0⟩, ⟨S128x512, R 1⟩] concatenates_S128x512_S128x512_S256x512_d0 (ValueIdx.ix2 (rowNo b r) f)
      = R b (ValueIdx.ix2 r f) := by
  have hb := b.isLt; have hr := r.isLt
  exact concatenate_ofFn_apply (t := S256x512) (s₁ := S128x512) 0 R
    concatenates_S128x512_S128x512_S256x512_d0 rfl 128 rfl (ValueIdx.ix2 (rowNo b r) f) b
    (by show (128 * b.val + r.val) / 128 = b.val; omega)
    (ValueIdx.ix2 r f) (by show r.val = (128 * b.val + r.val) % 128; omega) fun b hb => match b, hb with
      | ⟨0, _⟩, hb => absurd rfl hb
      | ⟨1, _⟩, _ => rfl

/-- The block at an index, from the heads' outputs. -/
theorem blockOf_at (wo : FVec Ideal S512x512 .f32) (H : Fin 16 → FVec Ideal S128x64 .bf16) (b : Fin 2) (r : Fin 128) (e : Fin 512) :
    blockOf wo H (ValueIdx.ix3 b r e)
      = ∑ f : Fin 512, H (headNo b (headOf f)) (ValueIdx.ix2 r (laneOf f)) * wo (ValueIdx.ix2 f e) := by
  refine (shapeCast_apply _ _ _ (ValueIdx.ix2 (rowNo b r) e) ?_).trans ?_
  · rw [Shape.rowMajor_val_two, Shape.rowMajor_val_three]
    show (128 * b.val + r.val) * 512 + e.val = (b.val * 128 + r.val) * 512 + e.val
    ring
  show FloatOps.matmul (DotDims.plain 256 512 512) none _ _ (constant S256x512 .f32 0x00000000#32) (ValueIdx.ix2 (rowNo b r) e) = _
  rw [Ideal.matmul_plain_apply, ValueIdx.constant_apply, Ideal.ofBits_zero_f32, zero_add]
  refine Finset.sum_congr rfl fun f _ => congrArg₂ (· * ·) ?_ ?_
  · refine (rows_at (fun p => rowOut H (headNo p 0) (headNo p 1) (headNo p 2) (headNo p 3) (headNo p 4) (headNo p 5) (headNo p 6) (headNo p 7))
      b r f).trans ?_
    exact rowOut_at H (headNo b) r f
  · exact shapeCast_apply _ _ _ _ rfl

/-- The block a device writes, at an index. -/
theorem result_at (kv : Fin 2 → Dev nD → FVec Ideal S2x128x8x64 .f32) (c : Dev nD) (x : FVec Ideal S2x128x512 .f32)
    (wq wo : FVec Ideal S512x512 .f32) (b : Fin 2) (r : Fin 128) (e : Fin 512) :
    result kv c x wq wo (ValueIdx.ix3 b r e)
      = ∑ f : Fin 512, attend
          (fun p : Fin 8 × Fin 128 =>
            (∑ d : Fin 64, queryAt x wq b r (headOf f) d * kv 0 (holder c p.1) (ValueIdx.ix4 b p.2 (headOf f) d)) * eighth)
          (fun p => kv 1 (holder c p.1) (ValueIdx.ix4 b p.2 (headOf f) (laneOf f))) * wo (ValueIdx.ix2 f e) := by
  refine (blockOf_at wo _ b r e).trans (Finset.sum_congr rfl fun f _ => congrArg (· * _) ?_)
  refine (headOut_at _ _ _ r (laneOf f)).trans (congrArg₂ attend (funext fun p => ?_) (funext fun p => ?_))
  · refine congrArg (· * eighth) (Finset.sum_congr rfl fun d _ => congrArg₂ (· * ·) ?_ ?_)
    · exact qHead_at x wq b r (headOf f) d
    · exact chunk_at (kv 0 (holder c p.1)) b (headOf f) p.2 d
  · exact chunk_at (kv 1 (holder c p.1)) b (headOf f) p.2 (laneOf f)

end Cert.AttKernelIdeal

end
-- ==== Proof.RefValue.lean ====
/-
# What the reference computes

The reference's result, read at an index: the same projection and attention, over all 1024 keys at once.
-/
module

public import proofs.«01_k».proof.Proof.BlockValue
public import proofs.«01_k».proof.Proof.Gen.ReferenceIdeal.Run

@[expose] public section

set_option maxRecDepth 16384

noncomputable section

namespace Cert.AttReference

open Cert.ReferenceIdeal Cert.ReferenceIdeal.Gen Cert.Att
open Cert.AttKernelIdeal (colNo headOf laneOf eighth ofBits_bot)
open Idealize.ShloMosaic
open scoped BigOperators

/-! ## The stages of the reference -/

/-- A row of activations times a square matrix. -/
abbrev project (x : FVec Ideal S2x1024x512 .f32) (w : FVec Ideal S512x512 .f32) : FVec Ideal S2x1024x512 .f32 :=
  Host.dotGeneral dot_S2x1024x512_S512x512_S2x1024x512_2_0_01_1_n_n none x w

/-- The queries, head by head. -/
def queries (x : FVec Ideal S2x1024x512 .f32) (wq : FVec Ideal S512x512 .f32) : FVec Ideal S2x1024x8x64 .f32 :=
  shapeCast _ (project x wq) shapeCasts_S2x1024x512_S2x1024x8x64

/-- The scaled scores of queries against keys. -/
def scores (q k : FVec Ideal S2x1024x8x64 .f32) : FVec Ideal S2x8x1024x1024 .f32 :=
  mulf (Host.dotGeneral dot_S2x1024x8x64_S2x1024x8x64_S2x8x1024x1024_3_3_1_1_02_02 none q k)
    (broadcastInDim S2x8x1024x1024 ![] bcast_S_S2x8x1024x1024 (constant S_ .f32 0x3E000000#32))

/-- The maximum of each row of scores. -/
def rowTop (s : FVec Ideal S2x8x1024x1024 .f32) : FVec Ideal S2x8x1024 .f32 :=
  Host.reduce FloatOps.maximumf s (constant S_ .f32 0xFF800000#32) reducesTo_S2x8x1024x1024_S2x8x1024_d3 h_S_

/-- The sum of each row. -/
def rowTotal (p : FVec Ideal S2x8x1024x1024 .f32) : FVec Ideal S2x8x1024 .f32 :=
  Host.reduceAdd p (constant S_ .f32 0x00000000#32) reducesTo_S2x8x1024x1024_S2x8x1024_d3 h_S_

/-- The maximum of each row of scores, and of the bottom element. -/
def rowMax (s : FVec Ideal S2x8x1024x1024 .f32) : FVec Ideal S2x8x1024x1 .f32 :=
  maximumf (broadcastInDim S2x8x1024x1 ![] bcast_S_S2x8x1024x1 (constant S_ .f32 0xFF800000#32))
    (broadcastInDim S2x8x1024x1 ![0, 1, 2] bcast_S2x8x1024_S2x8x1024x1_0_1_2 (rowTop s))

/-- What the empty state is rescaled by. -/
def rescale (s : FVec Ideal S2x8x1024x1024 .f32) : FVec Ideal S2x8x1024x1 .f32 :=
  Host.exp (subf (broadcastInDim S2x8x1024x1 ![] bcast_S_S2x8x1024x1 (constant S_ .f32 0xFF800000#32)) (rowMax s))

/-- The exponentials of the scores less their row's maximum. -/
def weights (s : FVec Ideal S2x8x1024x1024 .f32) : FVec Ideal S2x8x1024x1024 .f32 :=
  Host.exp (subf s (broadcastInDim S2x8x1024x1024 ![0, 1, 2, 3] bcast_S2x8x1024x1_S2x8x1024x1024_0_1_2_3 (rowMax s)))

/-- The sum of each row's weights. -/
def rowSum (s : FVec Ideal S2x8x1024x1024 .f32) : FVec Ideal S2x8x1024x1 .f32 :=
  addf (mulf (broadcastInDim S2x8x1024x1 ![] bcast_S_S2x8x1024x1 (constant S_ .f32 0x00000000#32)) (rescale s))
    (broadcastInDim S2x8x1024x1 ![0, 1, 2] bcast_S2x8x1024_S2x8x1024x1_0_1_2 (rowTotal (weights s)))

/-- One number a row, repeated along the coordinates of a head. -/
abbrev perRow (m : FVec Ideal S2x8x1024x1 .f32) : FVec Ideal S2x1024x8x64 .f32 :=
  broadcastInDim S2x1024x8x64 ![0, 1, 2, 3] bcast_S2x1024x8x1_S2x1024x8x64_0_1_2_3
    (transpose S2x1024x8x1 [0, 2, 1, 3] m transposes_S2x8x1024x1_S2x1024x8x1_0_2_1_3)

/-- The weighted sum of the values, in the order batch, head, coordinate, row. -/
abbrev weighted (v : FVec Ideal S2x1024x8x64 .f32) (p : FVec Ideal S2x8x1024x1024 .f32) : FVec Ideal S2x8x64x1024 .f32 :=
  Host.dotGeneral dot_S2x1024x8x64_S2x8x1024x1024_S2x8x64x1024_1_3_3_2_02_01 none v p

/-- The weighted sums of the values, not yet divided. -/
def total (v : FVec Ideal S2x1024x8x64 .f32) (s : FVec Ideal S2x8x1024x1024 .f32) : FVec Ideal S2x1024x8x64 .f32 :=
  addf (mulf (broadcastInDim S2x1024x8x64 ![] bcast_S_S2x1024x8x64 (constant S_ .f32 0x00000000#32)) (perRow (rescale s)))
    (transpose S2x1024x8x64 [0, 3, 1, 2] (weighted v (weights s)) transposes_S2x8x64x1024_S2x1024x8x64_0_3_1_2)

/-- The heads side by side. -/
def heads (v : FVec Ideal S2x1024x8x64 .f32) (s : FVec Ideal S2x8x1024x1024 .f32) : FVec Ideal S2x1024x512 .f32 :=
  shapeCast _ (Host.divf (total v s) (perRow (rowSum s))) shapeCasts_S2x1024x8x64_S2x1024x512

/-- The reference's result is its stages composed. -/
theorem result_eq (m : (ℓ : Loc nD τ sig) → Buf (Elt Ideal) ℓ) (c : Dev nD) :
    Value.res_main_v30 m c
      = project (heads (m ((c.tc : Thread nD τ).loc main_arg3))
          (scores (queries (m ((c.tc : Thread nD τ).loc main_arg0)) (m ((c.tc : Thread nD τ).loc main_arg1)))
            (m ((c.tc : Thread nD τ).loc main_arg2))))
          (m ((c.tc : Thread nD τ).loc main_arg4)) := rfl

/-! ## The products at an index -/

theorem project_at (x : FVec Ideal S2x1024x512 .f32) (w : FVec Ideal S512x512 .f32) (b : Fin 2) (i : Fin 1024) (e : Fin 512) :
    project x w (ValueIdx.ix3 b i e) = ∑ k : Fin 512, x (ValueIdx.ix3 b i k) * w (ValueIdx.ix2 k e) := by
  refine (Ideal.dotGeneral_apply dot_S2x1024x512_S512x512_S2x1024x512_2_0_01_1_n_n none _ x w (ValueIdx.ix3 b i e)).trans ?_
  rw [← Equiv.sum_comp (ValueIdx.contrEquiv1 dot_S2x1024x512_S512x512_S2x1024x512_2_0_01_1_n_n 512 rfl rfl).symm]
  refine Finset.sum_congr rfl fun k _ => ?_
  have hk := ValueIdx.contrEquiv1_symm_val dot_S2x1024x512_S512x512_S2x1024x512_2_0_01_1_n_n 512 rfl rfl k
  refine congrArg₂ (· * ·) (congrArg x (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem products_at (q k : FVec Ideal S2x1024x8x64 .f32) (b : Fin 2) (h : Fin 8) (i j : Fin 1024) :
    Host.dotGeneral (F := Ideal) (φ₁ := .f32) (φ₂ := .f32) dot_S2x1024x8x64_S2x1024x8x64_S2x8x1024x1024_3_3_1_1_02_02 none q k (ValueIdx.ix4 b h i j)
      = ∑ d : Fin 64, q (ValueIdx.ix4 b i h d) * k (ValueIdx.ix4 b j h d) := by
  refine (Ideal.dotGeneral_apply dot_S2x1024x8x64_S2x1024x8x64_S2x8x1024x1024_3_3_1_1_02_02 none _ q k (ValueIdx.ix4 b h i j)).trans ?_
  rw [← Equiv.sum_comp (ValueIdx.contrEquiv1 dot_S2x1024x8x64_S2x1024x8x64_S2x8x1024x1024_3_3_1_1_02_02 64 rfl rfl).symm]
  refine Finset.sum_congr rfl fun d _ => ?_
  have hd := ValueIdx.contrEquiv1_symm_val dot_S2x1024x8x64_S2x1024x8x64_S2x8x1024x1024_3_3_1_1_02_02 64 rfl rfl d
  refine congrArg₂ (· * ·) (congrArg q (funext fun a => Fin.ext ?_)) (congrArg k (funext fun a => Fin.ext ?_))
  · match a with
    | ⟨0, _⟩ => rfl
    | ⟨1, _⟩ => rfl
    | ⟨2, _⟩ => rfl
    | ⟨3, _⟩ => exact hd
  · match a with
    | ⟨0, _⟩ => rfl
    | ⟨1, _⟩ => rfl
    | ⟨2, _⟩ => rfl
    | ⟨3, _⟩ => exact hd

theorem weighted_at (v : FVec Ideal S2x1024x8x64 .f32) (p : FVec Ideal S2x8x1024x1024 .f32) (b : Fin 2) (h : Fin 8) (d : Fin 64) (i : Fin 1024) :
    weighted v p (ValueIdx.ix4 b h d i) = ∑ j : Fin 1024, p (ValueIdx.ix4 b h i j) * v (ValueIdx.ix4 b j h d) := by
  refine (Ideal.dotGeneral_apply dot_S2x1024x8x64_S2x8x1024x1024_S2x8x64x1024_1_3_3_2_02_01 none _ v p (ValueIdx.ix4 b h d i)).trans ?_
  rw [← Equiv.sum_comp (ValueIdx.contrEquiv1 dot_S2x1024x8x64_S2x8x1024x1024_S2x8x64x1024_1_3_3_2_02_01 1024 rfl rfl).symm]
  refine Finset.sum_congr rfl fun j _ => ?_
  have hj := ValueIdx.contrEquiv1_symm_val dot_S2x1024x8x64_S2x8x1024x1024_S2x8x64x1024_1_3_3_2_02_01 1024 rfl rfl j
  rw [mul_comm]
  refine congrArg₂ (· * ·) (congrArg p (funext fun a => Fin.ext ?_)) (congrArg v (funext fun a => Fin.ext ?_))
  · match a with
    | ⟨0, _⟩ => rfl
    | ⟨1, _⟩ => rfl
    | ⟨2, _⟩ => rfl
    | ⟨3, _⟩ => exact hj
  · match a with
    | ⟨0, _⟩ => rfl
    | ⟨1, _⟩ => exact hj
    | ⟨2, _⟩ => rfl
    | ⟨3, _⟩ => rfl

/-! ## The other stages at an index -/

theorem queries_at (x : FVec Ideal S2x1024x512 .f32) (wq : FVec Ideal S512x512 .f32) (b : Fin 2) (i : Fin 1024) (h : Fin 8) (d : Fin 64) :
    queries x wq (ValueIdx.ix4 b i h d) = ∑ k : Fin 512, x (ValueIdx.ix3 b i k) * wq (ValueIdx.ix2 k (colNo h d)) := by
  refine (shapeCast_apply _ _ _ (ValueIdx.ix3 b i (colNo h d)) ?_).trans (project_at x wq b i (colNo h d))
  rw [Shape.rowMajor_val_three, Shape.rowMajor_val_four]
  show (b.val * 1024 + i.val) * 512 + (64 * h.val + d.val) = ((b.val * 1024 + i.val) * 8 + h.val) * 64 + d.val
  ring

theorem scores_at (q k : FVec Ideal S2x1024x8x64 .f32) (b : Fin 2) (h : Fin 8) (i j : Fin 1024) :
    scores q k (ValueIdx.ix4 b h i j) = (∑ d : Fin 64, q (ValueIdx.ix4 b i h d) * k (ValueIdx.ix4 b j h d)) * eighth :=
  congrArg₂ (· * ·) (products_at q k b h i j) (ValueIdx.broadcastInDim_scalar_apply _ _ _)

/-- One number a row, with the last axis put back. -/
theorem column_at (m : FVec Ideal S2x8x1024 .f32) (b : Fin 2) (h : Fin 8) (i : Fin 1024) :
    broadcastInDim S2x8x1024x1 ![0, 1, 2] bcast_S2x8x1024_S2x8x1024x1_0_1_2 m (ValueIdx.ix4 b h i (0 : Fin 1)) = m (ValueIdx.ix3 b h i) :=
  broadcastInDim_apply _ _ _ _ _ fun a => match a with
    | ⟨0, _⟩ => rfl
    | ⟨1, _⟩ => rfl
    | ⟨2, _⟩ => rfl

theorem wide_at (m : FVec Ideal S2x8x1024x1 .f32) (b : Fin 2) (h : Fin 8) (i j : Fin 1024) :
    broadcastInDim S2x8x1024x1024 ![0, 1, 2, 3] bcast_S2x8x1024x1_S2x8x1024x1024_0_1_2_3 m (ValueIdx.ix4 b h i j)
      = m (ValueIdx.ix4 b h i (0 : Fin 1)) :=
  broadcastInDim_apply _ _ _ _ _ fun a => match a with
    | ⟨0, _⟩ => rfl
    | ⟨1, _⟩ => rfl
    | ⟨2, _⟩ => rfl
    | ⟨3, _⟩ => rfl

theorem perRow_at (m : FVec Ideal S2x8x1024x1 .f32) (b : Fin 2) (i : Fin 1024) (h : Fin 8) (d : Fin 64) :
    perRow m (ValueIdx.ix4 b i h d) = m (ValueIdx.ix4 b h i (0 : Fin 1)) := by
  refine (broadcastInDim_apply _ _ _ _ (ValueIdx.ix4 b i h (0 : Fin 1)) fun a => match a with
    | ⟨0, _⟩ => rfl
    | ⟨1, _⟩ => rfl
    | ⟨2, _⟩ => rfl
    | ⟨3, _⟩ => rfl).trans ?_
  exact transpose_apply _ _ _ _ _ fun a => match a with
    | ⟨0, _⟩ => rfl
    | ⟨1, _⟩ => rfl
    | ⟨2, _⟩ => rfl
    | ⟨3, _⟩ => rfl

/-- The axis the reductions drop. -/
theorem reduces_last : S2x8x1024x1024.Reduces [3] S2x8x1024 := by decide

/-- A row's place with a column put back. -/
theorem lift_row (b : Fin 2) (h : Fin 8) (i j : Fin 1024) :
    reduces_last.lift (ValueIdx.ix3 b h i) j = ValueIdx.ix4 b h i j := by
  funext a; apply Fin.ext
  match a with
  | ⟨0, _⟩ => rfl
  | ⟨1, _⟩ => rfl
  | ⟨2, _⟩ => rfl
  | ⟨3, _⟩ => rfl

/-- A maximum with the bottom element, as one column. -/
theorem maxBot_at (m : FVec Ideal S2x8x1024 .f32) (b : Fin 2) (h : Fin 8) (i : Fin 1024) :
    maximumf (broadcastInDim S2x8x1024x1 ![] bcast_S_S2x8x1024x1 (constant (F := Ideal) S_ .f32 0xFF800000#32))
      (broadcastInDim S2x8x1024x1 ![0, 1, 2] bcast_S2x8x1024_S2x8x1024x1_0_1_2 m) (ValueIdx.ix4 b h i (0 : Fin 1))
      = m (ValueIdx.ix3 b h i) := by
  refine (congrArg₂ max ((ValueIdx.broadcastInDim_scalar_apply _ _ _).trans ofBits_bot) (column_at m b h i)).trans ?_
  exact max_eq_right bot_le

/-- A zero scaled and added to, as one column. -/
theorem zeroPlus_at (a : FVec Ideal S2x8x1024x1 .f32) (m : FVec Ideal S2x8x1024 .f32) (b : Fin 2) (h : Fin 8) (i : Fin 1024) :
    addf (mulf (broadcastInDim S2x8x1024x1 ![] bcast_S_S2x8x1024x1 (constant (F := Ideal) S_ .f32 0x00000000#32)) a)
      (broadcastInDim S2x8x1024x1 ![0, 1, 2] bcast_S2x8x1024_S2x8x1024x1_0_1_2 m) (ValueIdx.ix4 b h i (0 : Fin 1))
      = m (ValueIdx.ix3 b h i) := by
  refine (congrArg₂ (· + ·) (congrArg (· * _) ((ValueIdx.broadcastInDim_scalar_apply _ _ _).trans Ideal.ofBits_zero_f32))
    (column_at m b h i)).trans ?_
  rw [zero_mul, zero_add]

theorem rowTop_at (s : FVec Ideal S2x8x1024x1024 .f32) (b : Fin 2) (h : Fin 8) (i : Fin 1024) :
    rowTop s (ValueIdx.ix3 b h i) = Finset.univ.sup fun j : Fin 1024 => s (ValueIdx.ix4 b h i j) := by
  refine (Host.reduce_eq_fold_single (α := Ideal .f32) FloatOps.maximumf s _ reducesTo_S2x8x1024x1024_S2x8x1024_d3 reduces_last h_S_
    (ValueIdx.ix3 b h i)).trans ?_
  rw [show (s ∘ reduces_last.lift (ValueIdx.ix3 b h i)) = fun j : Fin 1024 => s (ValueIdx.ix4 b h i j) from
    funext fun j => congrArg s (lift_row b h i j)]
  exact congrArg (fun z => Finset.fold max z (fun j : Fin 1024 => s (ValueIdx.ix4 b h i j)) Finset.univ) ofBits_bot

theorem rowMax_at (s : FVec Ideal S2x8x1024x1024 .f32) (b : Fin 2) (h : Fin 8) (i : Fin 1024) :
    rowMax s (ValueIdx.ix4 b h i (0 : Fin 1)) = Finset.univ.sup fun j : Fin 1024 => s (ValueIdx.ix4 b h i j) :=
  (maxBot_at (rowTop s) b h i).trans (rowTop_at s b h i)

/-- The exponentials of an array less one number a row. -/
theorem lessRow_at (s : FVec Ideal S2x8x1024x1024 .f32) (m : FVec Ideal S2x8x1024x1 .f32) (b : Fin 2) (h : Fin 8) (i j : Fin 1024) :
    Host.exp (subf s (broadcastInDim S2x8x1024x1024 ![0, 1, 2, 3] bcast_S2x8x1024x1_S2x8x1024x1024_0_1_2_3 m)) (ValueIdx.ix4 b h i j)
      = Ideal.exp (s (ValueIdx.ix4 b h i j) - m (ValueIdx.ix4 b h i (0 : Fin 1))) :=
  congrArg (fun z => Ideal.exp (s (ValueIdx.ix4 b h i j) - z)) (wide_at m b h i j)

theorem weights_at (s : FVec Ideal S2x8x1024x1024 .f32) (b : Fin 2) (h : Fin 8) (i j : Fin 1024) :
    weights s (ValueIdx.ix4 b h i j)
      = Ideal.exp (s (ValueIdx.ix4 b h i j) - Finset.univ.sup fun j : Fin 1024 => s (ValueIdx.ix4 b h i j)) := by
  exact (lessRow_at s (rowMax s) b h i j).trans (congrArg (fun z => Ideal.exp (s (ValueIdx.ix4 b h i j) - z)) (rowMax_at s b h i))

theorem rowTotal_at (p : FVec Ideal S2x8x1024x1024 .f32) (b : Fin 2) (h : Fin 8) (i : Fin 1024) :
    rowTotal p (ValueIdx.ix3 b h i) = ∑ j : Fin 1024, p (ValueIdx.ix4 b h i j) := by
  refine (ValueIdx.hostReduceAdd_apply p _ reducesTo_S2x8x1024x1024_S2x8x1024_d3 h_S_ (ValueIdx.ix3 b h i)).trans ?_
  refine (Ideal.hostReduceAdd_single _ reduces_last p _ (ValueIdx.ix3 b h i)).trans ?_
  refine (congrArg (· + _) Ideal.ofBits_zero_f32).trans ?_
  rw [zero_add]
  exact Finset.sum_congr rfl fun j _ => congrArg p (lift_row b h i j)

theorem rowSum_at (s : FVec Ideal S2x8x1024x1024 .f32) (b : Fin 2) (h : Fin 8) (i : Fin 1024) :
    rowSum s (ValueIdx.ix4 b h i (0 : Fin 1)) = ∑ j : Fin 1024, weights s (ValueIdx.ix4 b h i j) :=
  (zeroPlus_at (rescale s) (rowTotal (weights s)) b h i).trans (rowTotal_at (weights s) b h i)

/-- A zero scaled and added to, the rows first. -/
theorem zeroPlusRows_at (a : FVec Ideal S2x1024x8x64 .f32) (w : FVec Ideal S2x8x64x1024 .f32) (b : Fin 2) (i : Fin 1024) (h : Fin 8) (d : Fin 64) :
    addf (mulf (broadcastInDim S2x1024x8x64 ![] bcast_S_S2x1024x8x64 (constant (F := Ideal) S_ .f32 0x00000000#32)) a)
      (transpose S2x1024x8x64 [0, 3, 1, 2] w transposes_S2x8x64x1024_S2x1024x8x64_0_3_1_2) (ValueIdx.ix4 b i h d)
      = w (ValueIdx.ix4 b h d i) := by
  refine (congrArg₂ (· + ·) (congrArg (· * _) ((ValueIdx.broadcastInDim_scalar_apply _ _ _).trans Ideal.ofBits_zero_f32))
    (transpose_apply _ w _ _ (ValueIdx.ix4 b h d i) fun a => match a with
      | ⟨0, _⟩ => rfl
      | ⟨1, _⟩ => rfl
      | ⟨2, _⟩ => rfl
      | ⟨3, _⟩ => rfl)).trans ?_
  rw [zero_mul, zero_add]

theorem total_at (v : FVec Ideal S2x1024x8x64 .f32) (s : FVec Ideal S2x8x1024x1024 .f32) (b : Fin 2) (i : Fin 1024) (h : Fin 8) (d : Fin 64) :
    total v s (ValueIdx.ix4 b i h d) = ∑ j : Fin 1024, weights s (ValueIdx.ix4 b h i j) * v (ValueIdx.ix4 b j h d) :=
  (zeroPlusRows_at (perRow (rescale s)) (weighted v (weights s)) b i h d).trans (weighted_at v (weights s) b h d i)

theorem heads_at (v : FVec Ideal S2x1024x8x64 .f32) (s : FVec Ideal S2x8x1024x1024 .f32) (b : Fin 2) (i : Fin 1024) (f : Fin 512) :
    heads v s (ValueIdx.ix3 b i f)
      = attend (fun j : Fin 1024 => s (ValueIdx.ix4 b (headOf f) i j)) (fun j => v (ValueIdx.ix4 b j (headOf f) (laneOf f))) := by
  refine (shapeCast_apply _ _ _ (ValueIdx.ix4 b i (headOf f) (laneOf f)) ?_).trans ?_
  · rw [Shape.rowMajor_val_three, Shape.rowMajor_val_four]
    show ((b.val * 1024 + i.val) * 8 + f.val / 64) * 64 + f.val % 64 = (b.val * 1024 + i.val) * 512 + f.val
    omega
  refine (congrArg₂ Ideal.div (total_at v s b i (headOf f) (laneOf f))
    ((perRow_at (rowSum s) b i (headOf f) (laneOf f)).trans (rowSum_at s b (headOf f) i))).trans ?_
  exact congrArg₂ Ideal.div
    (Finset.sum_congr rfl fun j _ => congrArg (· * _) (weights_at s b (headOf f) i j))
    (Finset.sum_congr rfl fun j _ => weights_at s b (headOf f) i j)

/-! ## The result -/

/-- The reference's result at an index. -/
theorem reference_at (x : FVec Ideal S2x1024x512 .f32) (wq wo : FVec Ideal S512x512 .f32) (k v : FVec Ideal S2x1024x8x64 .f32)
    (b : Fin 2) (i : Fin 1024) (e : Fin 512) :
    project (heads v (scores (queries x wq) k)) wo (ValueIdx.ix3 b i e)
      = ∑ f : Fin 512, attend
          (fun j : Fin 1024 =>
            (∑ d : Fin 64, (∑ n : Fin 512, x (ValueIdx.ix3 b i n) * wq (ValueIdx.ix2 n (colNo (headOf f) d)))
              * k (ValueIdx.ix4 b j (headOf f) d)) * eighth)
          (fun j => v (ValueIdx.ix4 b j (headOf f) (laneOf f))) * wo (ValueIdx.ix2 f e) := by
  rw [project_at]
  refine Finset.sum_congr rfl fun f _ => congrArg (· * _) ((heads_at v _ b i f).trans ?_)
  refine congrArg (fun s => attend s _) (funext fun j => (scores_at _ k b (headOf f) i j).trans ?_)
  exact congrArg (· * eighth) (Finset.sum_congr rfl fun d _ => congrArg (· * _) (queries_at x wq b i (headOf f) d))

end Cert.AttReference

end
-- ==== Proof.Algebraic.lean ====
/-
# Kernel and reference agree

Each device's block of the kernel's result is that device's block of the reference's result: the keys of the eight
slots, read in the order the device met them, are the 1024 keys of the reference in another order.
-/
module

public import proofs.«01_k».proof.Proof.RefValue

@[expose] public section

set_option maxRecDepth 16384

noncomputable section

namespace Cert.Att

open Cert.AttKernelIdeal (colNo headOf laneOf eighth holder queryAt)
open Idealize.ShloMosaic Idealize.SL.Sem
open scoped BigOperators

/-! ## Blocks -/

/-- The row of the whole array that row `r` of device `c`'s block is. -/
abbrev rowIn (c : Fin 8) (r : Fin 128) : Fin 1024 := ⟨c.val * 128 + r.val, by have := c.isLt; have := r.isLt; omega⟩

/-- A device's block of the activations at an index. -/
theorem block_x_at (c : Fin 8) (X : FVec Ideal ⟨3, ![2, 1024, 512]⟩ .f32) (b : Fin 2) (r : Fin 128) (e : Fin 512) :
    Layout.block ⟨3, ![2, 128, 512]⟩ ⟨3, ![2, 1024, 512]⟩ 1 8 c X (by decide) (ValueIdx.ix3 b r e) = X (ValueIdx.ix3 b (rowIn c r) e) := by
  rw [Layout.block_apply]
  refine congrArg X (funext fun a => Fin.ext ?_)
  match a with
  | ⟨0, _⟩ => rfl
  | ⟨1, _⟩ => rfl
  | ⟨2, _⟩ => rfl

/-- A device's block of the keys, or of the values, at an index. -/
theorem block_kv_at (c : Fin 8) (X : FVec Ideal ⟨4, ![2, 1024, 8, 64]⟩ .f32) (b : Fin 2) (j : Fin 128) (h : Fin 8) (d : Fin 64) :
    Layout.block ⟨4, ![2, 128, 8, 64]⟩ ⟨4, ![2, 1024, 8, 64]⟩ 1 8 c X (by decide) (ValueIdx.ix4 b j h d)
      = X (ValueIdx.ix4 b (rowIn c j) h d) := by
  rw [Layout.block_apply]
  refine congrArg X (funext fun a => Fin.ext ?_)
  match a with
  | ⟨0, _⟩ => rfl
  | ⟨1, _⟩ => rfl
  | ⟨2, _⟩ => rfl
  | ⟨3, _⟩ => rfl

/-! ## The keys in another order -/

/-- No two slots of a device hold the same chunk. -/
theorem holder_injective : ∀ c : Fin 8, Function.Injective (holder c : Fin 8 → Fin 8) := by decide

/-- The keys a device meets, slot by slot, are the keys of the whole array. -/
def keyOf (c : Fin 8) : Fin 8 × Fin 128 ≃ Fin 1024 :=
  Equiv.ofBijective (fun p => rowIn (holder c p.1) p.2) <| by
    rw [Fintype.bijective_iff_injective_and_card]
    refine ⟨fun p q h => ?_, by simp⟩
    have h' : (holder c p.1).val * 128 + p.2.val = (holder c q.1).val * 128 + q.2.val := congrArg Fin.val h
    have hp := p.2.isLt; have hq := q.2.isLt
    have h1 : (holder c p.1 : Fin 8) = holder c q.1 := Fin.ext (by omega)
    refine Prod.ext (holder_injective c h1) (Fin.ext ?_)
    have h2 : (holder c p.1).val = (holder c q.1).val := congrArg Fin.val h1
    omega

/-! ## The equation -/

section
variable (c : Fin 8) (X : FVec Ideal ⟨3, ![2, 1024, 512]⟩ .f32) (wq wo : FVec Ideal ⟨2, ![512, 512]⟩ .f32)
  (K V : FVec Ideal ⟨4, ![2, 1024, 8, 64]⟩ .f32)

/-- The chunks of keys and of values each device starts with. -/
abbrev kvBlocks : Fin 2 → Fin 8 → FVec Ideal ⟨4, ![2, 128, 8, 64]⟩ .f32 :=
  ![fun c => Layout.block ⟨4, ![2, 128, 8, 64]⟩ ⟨4, ![2, 1024, 8, 64]⟩ 1 8 c K,
    fun c => Layout.block ⟨4, ![2, 128, 8, 64]⟩ ⟨4, ![2, 1024, 8, 64]⟩ 1 8 c V]

/-- The reference's result of five whole arrays. -/
abbrev whole : FVec Ideal ⟨3, ![2, 1024, 512]⟩ .f32 :=
  Cert.AttReference.project (Cert.AttReference.heads V (Cert.AttReference.scores (Cert.AttReference.queries X wq) K)) wo

/-- What a device computes from its blocks is its block of the reference's result. -/
theorem result_eq_block :
    Cert.AttKernelIdeal.result (kvBlocks K V) c (Layout.block ⟨3, ![2, 128, 512]⟩ ⟨3, ![2, 1024, 512]⟩ 1 8 c X) wq wo
      = Layout.block ⟨3, ![2, 128, 512]⟩ ⟨3, ![2, 1024, 512]⟩ 1 8 c (whole X wq wo K V) := by
  funext i
  obtain ⟨b, r, e, rfl⟩ : ∃ (b : Fin 2) (r : Fin 128) (e : Fin 512), i = ValueIdx.ix3 b r e := ⟨_, _, _, ValueIdx.eq_ix3 i⟩
  refine (Cert.AttKernelIdeal.result_at (kvBlocks K V) c _ wq wo b r e).trans (Eq.symm ?_)
  refine (block_x_at c (whole X wq wo K V) b r e).trans ?_
  refine (Cert.AttReference.reference_at X wq wo K V b (rowIn c r) e).trans ?_
  refine Finset.sum_congr rfl fun f _ => congrArg (· * _) ?_
  refine (attend_equiv (keyOf c) _ _).symm.trans (congrArg₂ attend (funext fun p => ?_) (funext fun p => ?_))
  · refine congrArg (· * eighth) (Finset.sum_congr rfl fun d _ => congrArg₂ (· * ·) ?_ ?_)
    · exact Finset.sum_congr rfl fun n _ => congrArg (· * _) (block_x_at c X b r n).symm
    · exact (block_kv_at (holder c p.1) K b p.2 (headOf f) d).symm
  · exact (block_kv_at (holder c p.1) V b p.2 (headOf f) (laneOf f)).symm

end

/-! ## The claim -/

/-- On the same arguments, each device of the kernel ends with its block of what the reference ends with. -/
theorem algebraic : Cert.algebraic_KernelIdeal_ReferenceIdeal (hKernelIdeal := Cert.KernelIdeal.Gen.facts)
    (hReferenceIdeal := Cert.ReferenceIdeal.Gen.facts) := fun m g m' g' _ h => by
  refine ⟨Cert.ReferenceIdeal.Value.res_main_v30 m' 0, ?_, ?_⟩
  · refine (θ_run _ _ _).mono (fun r hr c => ⟨(hr.1 c).1.trans ?_, (hr.1 c).2⟩) (Cert.AttKernelIdeal.run_value (F := Ideal) m g)
    have hk : Cert.AttKernelIdeal.kvIn m = kvBlocks
        (m' ((0 : Dev Cert.ReferenceIdeal.nD).tc.loc Cert.ReferenceIdeal.main_arg2))
        (m' ((0 : Dev Cert.ReferenceIdeal.nD).tc.loc Cert.ReferenceIdeal.main_arg3)) :=
      congrArg₂ (fun a b => ![a, b]) (funext fun d => (h d).2.2.1) (funext fun d => (h d).2.2.2.1)
    rw [Cert.AttReference.result_eq]
    refine Eq.trans ?_ (result_eq_block c _ _ _ _ _)
    show Cert.AttKernelIdeal.result _ _ _ _ _ = _
    rw [hk, show Cert.AttKernelIdeal.xIn m c = _ from (h c).1, show Cert.AttKernelIdeal.wqIn m c = _ from (h c).2.1,
      show Cert.AttKernelIdeal.woIn m c = _ from (h c).2.2.2.2]
  · exact (θ_run _ _ _).mono (fun r hr => hr 0) (Cert.ReferenceIdeal.Value.run (F := Ideal) m' g')

end Cert.Att

end
-- ==== Proof.lean ====
/-
# The claim

The frames (Proof/Frames.lean), the idealization, which rewrites no operation, and the equation of the kernel's result
with the reference's (Proof/Algebraic.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

/-- Everything the certificate claims. -/
theorem claim : Cert.Claim := ⟨Cert.Kernel.Gen.facts, Cert.KernelIdeal.Gen.facts, Cert.ReferenceIdeal.Gen.facts,
  Cert.Att.frame_kernel, Cert.Att.frame_kernelIdeal, Cert.Att.frame_referenceIdeal, trivial, Cert.Att.algebraic⟩

end Cert.Proof

end
